-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S16777216 : Shape := ⟨1, ![16777216]⟩
abbrev S33 : Shape := ⟨1, ![33]⟩
abbrev S32 : Shape := ⟨1, ![32]⟩
abbrev S_ : Shape := ⟨0, ![]⟩

class Facts : Prop where
  bcast_S_S33 : S_.BroadcastsInDim S33 (![] : Fin 0 → Fin S33.rank)
  reducesTo_S33_S_d0 : S33.ReducesTo [0] S_
  h_S_ : 0 < S_.numel
  bcast_S_S16777216 : S_.BroadcastsInDim S16777216 (![] : Fin 0 → Fin S16777216.rank)
  reducesTo_S16777216_S_d0 : S16777216.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S_ .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S_ .f32 := Host.absf main_arg3
  let main_cst_6 : FVec F S_ .f32 := constant S_ .f32 0x7F800000#32
  let main_v20 : IVec S_ 1 := cmpf .olt main_v19 main_cst_6
  let main_v21 : IVec S_ 1 := andi main_v18 main_v20
  main_v21

def fn {F : FTy → Type} [FloatOps F] (main_arg0 : FVec F S16777216 .f32) (main_arg1 : FVec F S33 .f32) (main_arg2 : FVec F S32 .f32) (main_arg3 : FVec F S_ .f32) : IVec S_ 1 :=
  let main_cst : FVec F S_ .f32 := constant S_ .f32 0x42000000#32
  let main_v0 : FVec F S33 .f32 := broadcastInDim S33 ![] bcast_S_S33 main_cst
  let main_v1 : FVec F S33 .f32 := mulf main_arg1 main_v0
  let main_v2 : IVec S33 32 := iotaInDim S33 32 0
  let main_v3 : FVec F S33 .f32 := sitofp .f32 main_v2
  let main_v4 : IVec S33 1 := cmpf .oeq main_v1 main_v3
  let main_c : IVec S_ 1 := constantI S_ 1 1#1
  let main_v5 : IVec S_ 1 := (fun x v => Host.reduce IntOp.andi x v reducesTo_S33_S_d0 h_S_) main_v4 main_c
  let main_cst_0 : FVec F S_ .f32 := constant S_ .f32 0x00000000#32
  let main_v6 : FVec F S16777216 .f32 := broadcastInDim S16777216 ![] bcast_S_S16777216 main_cst_0
  let main_v7 : IVec S16777216 1 := cmpf .oge main_arg0 main_v6
  let main_c_1 : IVec S_ 1 := constantI S_ 1 1#1
  let main_v8 : IVec S_ 1 := (fun x v => Host.reduce IntOp.andi x v reducesTo_S16777216_S_d0 h_S_) main_v7 main_c_1
  let main_v9 : IVec S_ 1 := andi main_v5 main_v8
  let main_cst_2 : FVec F S_ .f32 := constant S_ .f32 0x3F800000#32
  let main_v10 : FVec F S16777216 .f32 := broadcastInDim S16777216 ![] bcast_S_S16777216 main_cst_2
  let main_v11 : IVec S16777216 1 := cmpf .olt main_arg0 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v9 main_v12
  let main_v14 : FVec F S32 .f32 := Host.absf main_arg2
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg3 main_v13 main_v16
-- ==== Kernel.lean ====
abbrev S16777216 : Shape := ⟨1, ![16777216]⟩
abbrev S33 : Shape := ⟨1, ![33]⟩
abbrev S32 : Shape := ⟨1, ![32]⟩
abbrev S_ : Shape := ⟨0, ![]⟩
abbrev S1 : Shape := ⟨1, ![1]⟩
abbrev S4096 : Shape := ⟨1, ![4096]⟩
abbrev S16 : Shape := ⟨1, ![16]⟩

abbrev nBuf : Table → Nat
  | .hbm => 44
  | .local .scVector .vmem => 18
  | _ => 0

abbrev bufTy : (tb : Table) → Fin (nBuf tb) → BufTy
  | .hbm, ⟨0, _⟩ => ⟨S16777216, .f32⟩
  | .hbm, ⟨1, _⟩ => ⟨S33, .f32⟩
  | .hbm, ⟨2, _⟩ => ⟨S32, .f32⟩
  | .hbm, ⟨3, _⟩ => ⟨S_, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .i1⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1, .f32⟩
  | .hbm, ⟨22, _⟩ => ⟨S33, .f32⟩
  | .hbm, ⟨23, _⟩ => ⟨S_, .f32⟩
  | .hbm, ⟨24, _⟩ => ⟨S_, .f32⟩
  | .hbm, ⟨25, _⟩ => ⟨S33, .f32⟩
  | .hbm, ⟨26, _⟩ => ⟨S_, .f32⟩
  | .hbm, ⟨27, _⟩ => ⟨S1, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S33, .f32⟩
  | .hbm, ⟨34, _⟩ => ⟨S_, .f32⟩
  | .hbm, ⟨35, _⟩ => ⟨S_, .f32⟩
  | .hbm, ⟨36, _⟩ => ⟨S33, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S16777216, .f32⟩
  | .local .scVector .vmem, ⟨0, _⟩ => ⟨S32, .f32⟩
  | .local .scVector .vmem, ⟨1, _⟩ => ⟨S32, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | .local .scVector .vmem, ⟨7, _⟩ => ⟨S4096, .f32⟩
  | .local .scVector .vmem, ⟨8, _⟩ => ⟨S4096, .f32⟩
  | .local .scVector .vmem, ⟨9, _⟩ => ⟨S4096, .f32⟩
  | .local .scVector .vmem, ⟨10, _⟩ => ⟨S4096, .f32⟩
  | .local .scVector .vmem, ⟨11, _⟩ => ⟨S4096, .f32⟩
  | .local .scVector .vmem, ⟨12, _⟩ => ⟨S4096, .f32⟩
  | .local .scVector .vmem, ⟨13, _⟩ => ⟨S4096, .f32⟩
  | .local .scVector .vmem, ⟨14, _⟩ => ⟨S4096, .f32⟩
  | .local .scVector .vmem, ⟨15, _⟩ => ⟨S4096, .f32⟩
  | .local .scVector .vmem, ⟨16, _⟩ => ⟨S4096, .f32⟩
  | .local .scVector .vmem, ⟨17, _⟩ => ⟨S4096, .f32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_call0_cst : Ref sig .tc := ⟨.hbm, 23, rfl⟩
abbrev main_call1_call0_v0 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_call2_v0 : Ref sig .tc := ⟨.hbm, 29, rfl⟩
abbrev main_call2_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call3_call0_cst : Ref sig .tc := ⟨.hbm, 34, rfl⟩
abbrev main_call3_call0_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_arg0_scv : Ref sig .scVector := ⟨.hbm, 0, rfl⟩
abbrev main_v16_scv : Ref sig .scVector := ⟨.hbm, 41, rfl⟩
abbrev main_v17_scv : Ref sig .scVector := ⟨.hbm, 42, rfl⟩
abbrev main_v18_scv : Ref sig .scVector := ⟨.hbm, 43, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
def k0_off1_at (r : Fin 16) : BitVec 32 :=
  if r.val < 8 then
    if r.val < 4 then
      if r.val < 2 then
        if r.val < 1 then
          0#32
        else
          4096#32
      else
        if r.val < 3 then
          8192#32
        else
          12288#32
    else
      if r.val < 6 then
        if r.val < 5 then
          16384#32
        else
          20480#32
      else
        if r.val < 7 then
          24576#32
        else
          28672#32
  else
    if r.val < 12 then
      if r.val < 10 then
        if r.val < 9 then
          491520#32
        else
          495616#32
      else
        if r.val < 11 then
          499712#32
        else
          503808#32
    else
      if r.val < 14 then
        if r.val < 13 then
          507904#32
        else
          512000#32
      else
        if r.val < 15 then
          516096#32
        else
          520192#32
@[reducible] def k0_t1_loop : Scf.Loop 32 :=
  let c0_i32_0 : BitVec 32 := 0#32
  let c16_i32 : BitVec 32 := 16#32
  let v27 : BitVec 32 := Scalar.addi c0_i32_0 c16_i32
  let c1_i32 : BitVec 32 := 1#32
  ⟨c0_i32_0, v27, c1_i32⟩
def k0_off2 (i : grid0.Coords) (k0_t1 : Fin k0_t1_loop.trips) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let v54 : BitVec 32 := Scalar.addi v53 c0_i32_3
  let c4096_i32_4 : BitVec 32 := 4096#32
  let v55 : BitVec 32 := Scalar.muli v54 c4096_i32_4
  let v56 : BitVec 32 := Scalar.addi v2 v55
  ![v56.toNat]
def k0_cond1 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c0_i32_3 : BitVec 32 := 0#32
  let v54 : BitVec 32 := Scalar.addi v53 c0_i32_3
  let c8_i32_5 : BitVec 32 := 8#32
  let v59 : BitVec 1 := Scalar.cmpi .sge v54 c8_i32_5
  let v60 : BitVec 32 := Scalar.extui v59
  let c0_i32_6 : BitVec 32 := 0#32
  let v61 : BitVec 1 := Scalar.cmpi .ne v60 c0_i32_6
  v61

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c0_i32_3 : BitVec 32 := 0#32
  let v54 : BitVec 32 := Scalar.addi v53 c0_i32_3
  let c4096_i32_4 : BitVec 32 := 4096#32
  let v55 : BitVec 32 := Scalar.muli v54 c4096_i32_4
  let v56 : BitVec 32 := Scalar.addi v2 v55
  let c32768_i32 : BitVec 32 := 32768#32
  let v174 : BitVec 32 := Scalar.subi v56 c32768_i32
  ![v174.toNat]
@[reducible] def k0_t2_loop : Scf.Loop 32 :=
  let c0_i32_7 : BitVec 32 := 0#32
  let c256_i32 : BitVec 32 := 256#32
  let v62 : BitVec 32 := Scalar.addi c0_i32_7 c256_i32
  let c1_i32_8 : BitVec 32 := 1#32
  ⟨c0_i32_7, v62, c1_i32_8⟩
def k0_off4 (k0_t2 : Fin k0_t2_loop.trips) : Fin 1 → Nat :=
  let c0_i32_85 : BitVec 32 := 0#32
  let c0_i32_7 : BitVec 32 := 0#32
  let c1_i32_8 : BitVec 32 := 1#32
  let arg41 : BitVec 32 := Scf.iv c0_i32_7 c1_i32_8 k0_t2
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk1 (v185 : IVec S16 32) : Prop :=
  (∀ a x, ((![v185] : Fin 1 → IVec S16 32) a x).toNat < S32.size a) ∧
  (∀ a x, ((![v185] : Fin 1 → IVec S16 32) a x).toNat < S32.size a)
theorem k0_idx1_inb : ∀ (v185 : IVec S16 32) (k0_hw1 : k0_chk1 v185), ∀ a x, ((![v185] : Fin 1 → IVec S16 32) a x).toNat < S32.size a := fun v185 k0_hw1 => k0_hw1.1
theorem k0_idx2_inb : ∀ (v185 : IVec S16 32) (k0_hw1 : k0_chk1 v185), ∀ a x, ((![v185] : Fin 1 → IVec S16 32) a x).toNat < S32.size a := fun v185 k0_hw1 => k0_hw1.2
def k0_off5 (k0_t2 : Fin k0_t2_loop.trips) : Fin 1 → Nat :=
  let c0_i32_85 : BitVec 32 := 0#32
  let c0_i32_7 : BitVec 32 := 0#32
  let c1_i32_8 : BitVec 32 := 1#32
  let arg41 : BitVec 32 := Scf.iv c0_i32_7 c1_i32_8 k0_t2
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond2 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c0_i32_3 : BitVec 32 := 0#32
  let v54 : BitVec 32 := Scalar.addi v53 c0_i32_3
  let c8_i32_10 : BitVec 32 := 8#32
  let v65 : BitVec 32 := Scalar.addi v54 c8_i32_10
  let c128_i32 : BitVec 32 := 128#32
  let v66 : BitVec 1 := Scalar.cmpi .slt v65 c128_i32
  let v67 : BitVec 32 := Scalar.extui v66
  let c0_i32_11 : BitVec 32 := 0#32
  let v68 : BitVec 1 := Scalar.cmpi .ne v67 c0_i32_11
  v68

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c0_i32_3 : BitVec 32 := 0#32
  let v54 : BitVec 32 := Scalar.addi v53 c0_i32_3
  let c4096_i32_4 : BitVec 32 := 4096#32
  let v55 : BitVec 32 := Scalar.muli v54 c4096_i32_4
  let v56 : BitVec 32 := Scalar.addi v2 v55
  let c32768_i32 : BitVec 32 := 32768#32
  let v174 : BitVec 32 := Scalar.addi v56 c32768_i32
  ![v174.toNat]
def k0_cond3 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c1_i32_12 : BitVec 32 := 1#32
  let v69 : BitVec 32 := Scalar.addi v53 c1_i32_12
  let c8_i32_14 : BitVec 32 := 8#32
  let v74 : BitVec 1 := Scalar.cmpi .sge v69 c8_i32_14
  let v75 : BitVec 32 := Scalar.extui v74
  let c0_i32_15 : BitVec 32 := 0#32
  let v76 : BitVec 1 := Scalar.cmpi .ne v75 c0_i32_15
  v76

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c1_i32_12 : BitVec 32 := 1#32
  let v69 : BitVec 32 := Scalar.addi v53 c1_i32_12
  let c4096_i32_13 : BitVec 32 := 4096#32
  let v70 : BitVec 32 := Scalar.muli v69 c4096_i32_13
  let v71 : BitVec 32 := Scalar.addi v2 v70
  let c32768_i32 : BitVec 32 := 32768#32
  let v174 : BitVec 32 := Scalar.subi v71 c32768_i32
  ![v174.toNat]
@[reducible] def k0_t3_loop : Scf.Loop 32 :=
  let c0_i32_16 : BitVec 32 := 0#32
  let c256_i32_17 : BitVec 32 := 256#32
  let v77 : BitVec 32 := Scalar.addi c0_i32_16 c256_i32_17
  let c1_i32_18 : BitVec 32 := 1#32
  ⟨c0_i32_16, v77, c1_i32_18⟩
def k0_off8 (k0_t3 : Fin k0_t3_loop.trips) : Fin 1 → Nat :=
  let c0_i32_85 : BitVec 32 := 0#32
  let c0_i32_16 : BitVec 32 := 0#32
  let c1_i32_18 : BitVec 32 := 1#32
  let arg41 : BitVec 32 := Scf.iv c0_i32_16 c1_i32_18 k0_t3
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk2 (v185 : IVec S16 32) : Prop :=
  (∀ a x, ((![v185] : Fin 1 → IVec S16 32) a x).toNat < S32.size a) ∧
  (∀ a x, ((![v185] : Fin 1 → IVec S16 32) a x).toNat < S32.size a)
theorem k0_idx3_inb : ∀ (v185 : IVec S16 32) (k0_hw2 : k0_chk2 v185), ∀ a x, ((![v185] : Fin 1 → IVec S16 32) a x).toNat < S32.size a := fun v185 k0_hw2 => k0_hw2.1
theorem k0_idx4_inb : ∀ (v185 : IVec S16 32) (k0_hw2 : k0_chk2 v185), ∀ a x, ((![v185] : Fin 1 → IVec S16 32) a x).toNat < S32.size a := fun v185 k0_hw2 => k0_hw2.2
def k0_off9 (k0_t3 : Fin k0_t3_loop.trips) : Fin 1 → Nat :=
  let c0_i32_85 : BitVec 32 := 0#32
  let c0_i32_16 : BitVec 32 := 0#32
  let c1_i32_18 : BitVec 32 := 1#32
  let arg41 : BitVec 32 := Scf.iv c0_i32_16 c1_i32_18 k0_t3
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond4 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c1_i32_12 : BitVec 32 := 1#32
  let v69 : BitVec 32 := Scalar.addi v53 c1_i32_12
  let c8_i32_20 : BitVec 32 := 8#32
  let v80 : BitVec 32 := Scalar.addi v69 c8_i32_20
  let c128_i32_21 : BitVec 32 := 128#32
  let v81 : BitVec 1 := Scalar.cmpi .slt v80 c128_i32_21
  let v82 : BitVec 32 := Scalar.extui v81
  let c0_i32_22 : BitVec 32 := 0#32
  let v83 : BitVec 1 := Scalar.cmpi .ne v82 c0_i32_22
  v83

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c1_i32_12 : BitVec 32 := 1#32
  let v69 : BitVec 32 := Scalar.addi v53 c1_i32_12
  let c4096_i32_13 : BitVec 32 := 4096#32
  let v70 : BitVec 32 := Scalar.muli v69 c4096_i32_13
  let v71 : BitVec 32 := Scalar.addi v2 v70
  let c32768_i32 : BitVec 32 := 32768#32
  let v174 : BitVec 32 := Scalar.addi v71 c32768_i32
  ![v174.toNat]
def k0_cond5 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c2_i32_23 : BitVec 32 := 2#32
  let v84 : BitVec 32 := Scalar.addi v53 c2_i32_23
  let c8_i32_25 : BitVec 32 := 8#32
  let v89 : BitVec 1 := Scalar.cmpi .sge v84 c8_i32_25
  let v90 : BitVec 32 := Scalar.extui v89
  let c0_i32_26 : BitVec 32 := 0#32
  let v91 : BitVec 1 := Scalar.cmpi .ne v90 c0_i32_26
  v91

def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c2_i32_23 : BitVec 32 := 2#32
  let v84 : BitVec 32 := Scalar.addi v53 c2_i32_23
  let c4096_i32_24 : BitVec 32 := 4096#32
  let v85 : BitVec 32 := Scalar.muli v84 c4096_i32_24
  let v86 : BitVec 32 := Scalar.addi v2 v85
  let c32768_i32 : BitVec 32 := 32768#32
  let v174 : BitVec 32 := Scalar.subi v86 c32768_i32
  ![v174.toNat]
@[reducible] def k0_t4_loop : Scf.Loop 32 :=
  let c0_i32_27 : BitVec 32 := 0#32
  let c256_i32_28 : BitVec 32 := 256#32
  let v92 : BitVec 32 := Scalar.addi c0_i32_27 c256_i32_28
  let c1_i32_29 : BitVec 32 := 1#32
  ⟨c0_i32_27, v92, c1_i32_29⟩
def k0_off12 (k0_t4 : Fin k0_t4_loop.trips) : Fin 1 → Nat :=
  let c0_i32_85 : BitVec 32 := 0#32
  let c0_i32_27 : BitVec 32 := 0#32
  let c1_i32_29 : BitVec 32 := 1#32
  let arg41 : BitVec 32 := Scf.iv c0_i32_27 c1_i32_29 k0_t4
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk3 (v185 : IVec S16 32) : Prop :=
  (∀ a x, ((![v185] : Fin 1 → IVec S16 32) a x).toNat < S32.size a) ∧
  (∀ a x, ((![v185] : Fin 1 → IVec S16 32) a x).toNat < S32.size a)
theorem k0_idx5_inb : ∀ (v185 : IVec S16 32) (k0_hw3 : k0_chk3 v185), ∀ a x, ((![v185] : Fin 1 → IVec S16 32) a x).toNat < S32.size a := fun v185 k0_hw3 => k0_hw3.1
theorem k0_idx6_inb : ∀ (v185 : IVec S16 32) (k0_hw3 : k0_chk3 v185), ∀ a x, ((![v185] : Fin 1 → IVec S16 32) a x).toNat < S32.size a := fun v185 k0_hw3 => k0_hw3.2
def k0_off13 (k0_t4 : Fin k0_t4_loop.trips) : Fin 1 → Nat :=
  let c0_i32_85 : BitVec 32 := 0#32
  let c0_i32_27 : BitVec 32 := 0#32
  let c1_i32_29 : BitVec 32 := 1#32
  let arg41 : BitVec 32 := Scf.iv c0_i32_27 c1_i32_29 k0_t4
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond6 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c2_i32_23 : BitVec 32 := 2#32
  let v84 : BitVec 32 := Scalar.addi v53 c2_i32_23
  let c8_i32_31 : BitVec 32 := 8#32
  let v95 : BitVec 32 := Scalar.addi v84 c8_i32_31
  let c128_i32_32 : BitVec 32 := 128#32
  let v96 : BitVec 1 := Scalar.cmpi .slt v95 c128_i32_32
  let v97 : BitVec 32 := Scalar.extui v96
  let c0_i32_33 : BitVec 32 := 0#32
  let v98 : BitVec 1 := Scalar.cmpi .ne v97 c0_i32_33
  v98

def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c2_i32_23 : BitVec 32 := 2#32
  let v84 : BitVec 32 := Scalar.addi v53 c2_i32_23
  let c4096_i32_24 : BitVec 32 := 4096#32
  let v85 : BitVec 32 := Scalar.muli v84 c4096_i32_24
  let v86 : BitVec 32 := Scalar.addi v2 v85
  let c32768_i32 : BitVec 32 := 32768#32
  let v174 : BitVec 32 := Scalar.addi v86 c32768_i32
  ![v174.toNat]
def k0_cond7 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c3_i32 : BitVec 32 := 3#32
  let v99 : BitVec 32 := Scalar.addi v53 c3_i32
  let c8_i32_35 : BitVec 32 := 8#32
  let v104 : BitVec 1 := Scalar.cmpi .sge v99 c8_i32_35
  let v105 : BitVec 32 := Scalar.extui v104
  let c0_i32_36 : BitVec 32 := 0#32
  let v106 : BitVec 1 := Scalar.cmpi .ne v105 c0_i32_36
  v106

def k0_off15 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c3_i32 : BitVec 32 := 3#32
  let v99 : BitVec 32 := Scalar.addi v53 c3_i32
  let c4096_i32_34 : BitVec 32 := 4096#32
  let v100 : BitVec 32 := Scalar.muli v99 c4096_i32_34
  let v101 : BitVec 32 := Scalar.addi v2 v100
  let c32768_i32 : BitVec 32 := 32768#32
  let v174 : BitVec 32 := Scalar.subi v101 c32768_i32
  ![v174.toNat]
@[reducible] def k0_t5_loop : Scf.Loop 32 :=
  let c0_i32_37 : BitVec 32 := 0#32
  let c256_i32_38 : BitVec 32 := 256#32
  let v107 : BitVec 32 := Scalar.addi c0_i32_37 c256_i32_38
  let c1_i32_39 : BitVec 32 := 1#32
  ⟨c0_i32_37, v107, c1_i32_39⟩
def k0_off16 (k0_t5 : Fin k0_t5_loop.trips) : Fin 1 → Nat :=
  let c0_i32_85 : BitVec 32 := 0#32
  let c0_i32_37 : BitVec 32 := 0#32
  let c1_i32_39 : BitVec 32 := 1#32
  let arg41 : BitVec 32 := Scf.iv c0_i32_37 c1_i32_39 k0_t5
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk4 (v185 : IVec S16 32) : Prop :=
  (∀ a x, ((![v185] : Fin 1 → IVec S16 32) a x).toNat < S32.size a) ∧
  (∀ a x, ((![v185] : Fin 1 → IVec S16 32) a x).toNat < S32.size a)
theorem k0_idx7_inb : ∀ (v185 : IVec S16 32) (k0_hw4 : k0_chk4 v185), ∀ a x, ((![v185] : Fin 1 → IVec S16 32) a x).toNat < S32.size a := fun v185 k0_hw4 => k0_hw4.1
theorem k0_idx8_inb : ∀ (v185 : IVec S16 32) (k0_hw4 : k0_chk4 v185), ∀ a x, ((![v185] : Fin 1 → IVec S16 32) a x).toNat < S32.size a := fun v185 k0_hw4 => k0_hw4.2
def k0_off17 (k0_t5 : Fin k0_t5_loop.trips) : Fin 1 → Nat :=
  let c0_i32_85 : BitVec 32 := 0#32
  let c0_i32_37 : BitVec 32 := 0#32
  let c1_i32_39 : BitVec 32 := 1#32
  let arg41 : BitVec 32 := Scf.iv c0_i32_37 c1_i32_39 k0_t5
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond8 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c3_i32 : BitVec 32 := 3#32
  let v99 : BitVec 32 := Scalar.addi v53 c3_i32
  let c8_i32_41 : BitVec 32 := 8#32
  let v110 : BitVec 32 := Scalar.addi v99 c8_i32_41
  let c128_i32_42 : BitVec 32 := 128#32
  let v111 : BitVec 1 := Scalar.cmpi .slt v110 c128_i32_42
  let v112 : BitVec 32 := Scalar.extui v111
  let c0_i32_43 : BitVec 32 := 0#32
  let v113 : BitVec 1 := Scalar.cmpi .ne v112 c0_i32_43
  v113

def k0_off18 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c3_i32 : BitVec 32 := 3#32
  let v99 : BitVec 32 := Scalar.addi v53 c3_i32
  let c4096_i32_34 : BitVec 32 := 4096#32
  let v100 : BitVec 32 := Scalar.muli v99 c4096_i32_34
  let v101 : BitVec 32 := Scalar.addi v2 v100
  let c32768_i32 : BitVec 32 := 32768#32
  let v174 : BitVec 32 := Scalar.addi v101 c32768_i32
  ![v174.toNat]
def k0_cond9 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c4_i32 : BitVec 32 := 4#32
  let v114 : BitVec 32 := Scalar.addi v53 c4_i32
  let c8_i32_45 : BitVec 32 := 8#32
  let v119 : BitVec 1 := Scalar.cmpi .sge v114 c8_i32_45
  let v120 : BitVec 32 := Scalar.extui v119
  let c0_i32_46 : BitVec 32 := 0#32
  let v121 : BitVec 1 := Scalar.cmpi .ne v120 c0_i32_46
  v121

def k0_off19 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c4_i32 : BitVec 32 := 4#32
  let v114 : BitVec 32 := Scalar.addi v53 c4_i32
  let c4096_i32_44 : BitVec 32 := 4096#32
  let v115 : BitVec 32 := Scalar.muli v114 c4096_i32_44
  let v116 : BitVec 32 := Scalar.addi v2 v115
  let c32768_i32 : BitVec 32 := 32768#32
  let v174 : BitVec 32 := Scalar.subi v116 c32768_i32
  ![v174.toNat]
@[reducible] def k0_t6_loop : Scf.Loop 32 :=
  let c0_i32_47 : BitVec 32 := 0#32
  let c256_i32_48 : BitVec 32 := 256#32
  let v122 : BitVec 32 := Scalar.addi c0_i32_47 c256_i32_48
  let c1_i32_49 : BitVec 32 := 1#32
  ⟨c0_i32_47, v122, c1_i32_49⟩
def k0_off20 (k0_t6 : Fin k0_t6_loop.trips) : Fin 1 → Nat :=
  let c0_i32_85 : BitVec 32 := 0#32
  let c0_i32_47 : BitVec 32 := 0#32
  let c1_i32_49 : BitVec 32 := 1#32
  let arg41 : BitVec 32 := Scf.iv c0_i32_47 c1_i32_49 k0_t6
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk5 (v185 : IVec S16 32) : Prop :=
  (∀ a x, ((![v185] : Fin 1 → IVec S16 32) a x).toNat < S32.size a) ∧
  (∀ a x, ((![v185] : Fin 1 → IVec S16 32) a x).toNat < S32.size a)
theorem k0_idx9_inb : ∀ (v185 : IVec S16 32) (k0_hw5 : k0_chk5 v185), ∀ a x, ((![v185] : Fin 1 → IVec S16 32) a x).toNat < S32.size a := fun v185 k0_hw5 => k0_hw5.1
theorem k0_idx10_inb : ∀ (v185 : IVec S16 32) (k0_hw5 : k0_chk5 v185), ∀ a x, ((![v185] : Fin 1 → IVec S16 32) a x).toNat < S32.size a := fun v185 k0_hw5 => k0_hw5.2
def k0_off21 (k0_t6 : Fin k0_t6_loop.trips) : Fin 1 → Nat :=
  let c0_i32_85 : BitVec 32 := 0#32
  let c0_i32_47 : BitVec 32 := 0#32
  let c1_i32_49 : BitVec 32 := 1#32
  let arg41 : BitVec 32 := Scf.iv c0_i32_47 c1_i32_49 k0_t6
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond10 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c4_i32 : BitVec 32 := 4#32
  let v114 : BitVec 32 := Scalar.addi v53 c4_i32
  let c8_i32_51 : BitVec 32 := 8#32
  let v125 : BitVec 32 := Scalar.addi v114 c8_i32_51
  let c128_i32_52 : BitVec 32 := 128#32
  let v126 : BitVec 1 := Scalar.cmpi .slt v125 c128_i32_52
  let v127 : BitVec 32 := Scalar.extui v126
  let c0_i32_53 : BitVec 32 := 0#32
  let v128 : BitVec 1 := Scalar.cmpi .ne v127 c0_i32_53
  v128

def k0_off22 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c4_i32 : BitVec 32 := 4#32
  let v114 : BitVec 32 := Scalar.addi v53 c4_i32
  let c4096_i32_44 : BitVec 32 := 4096#32
  let v115 : BitVec 32 := Scalar.muli v114 c4096_i32_44
  let v116 : BitVec 32 := Scalar.addi v2 v115
  let c32768_i32 : BitVec 32 := 32768#32
  let v174 : BitVec 32 := Scalar.addi v116 c32768_i32
  ![v174.toNat]
def k0_cond11 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c5_i32 : BitVec 32 := 5#32
  let v129 : BitVec 32 := Scalar.addi v53 c5_i32
  let c8_i32_55 : BitVec 32 := 8#32
  let v134 : BitVec 1 := Scalar.cmpi .sge v129 c8_i32_55
  let v135 : BitVec 32 := Scalar.extui v134
  let c0_i32_56 : BitVec 32 := 0#32
  let v136 : BitVec 1 := Scalar.cmpi .ne v135 c0_i32_56
  v136

def k0_off23 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c5_i32 : BitVec 32 := 5#32
  let v129 : BitVec 32 := Scalar.addi v53 c5_i32
  let c4096_i32_54 : BitVec 32 := 4096#32
  let v130 : BitVec 32 := Scalar.muli v129 c4096_i32_54
  let v131 : BitVec 32 := Scalar.addi v2 v130
  let c32768_i32 : BitVec 32 := 32768#32
  let v174 : BitVec 32 := Scalar.subi v131 c32768_i32
  ![v174.toNat]
@[reducible] def k0_t7_loop : Scf.Loop 32 :=
  let c0_i32_57 : BitVec 32 := 0#32
  let c256_i32_58 : BitVec 32 := 256#32
  let v137 : BitVec 32 := Scalar.addi c0_i32_57 c256_i32_58
  let c1_i32_59 : BitVec 32 := 1#32
  ⟨c0_i32_57, v137, c1_i32_59⟩
def k0_off24 (k0_t7 : Fin k0_t7_loop.trips) : Fin 1 → Nat :=
  let c0_i32_85 : BitVec 32 := 0#32
  let c0_i32_57 : BitVec 32 := 0#32
  let c1_i32_59 : BitVec 32 := 1#32
  let arg41 : BitVec 32 := Scf.iv c0_i32_57 c1_i32_59 k0_t7
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk6 (v185 : IVec S16 32) : Prop :=
  (∀ a x, ((![v185] : Fin 1 → IVec S16 32) a x).toNat < S32.size a) ∧
  (∀ a x, ((![v185] : Fin 1 → IVec S16 32) a x).toNat < S32.size a)
theorem k0_idx11_inb : ∀ (v185 : IVec S16 32) (k0_hw6 : k0_chk6 v185), ∀ a x, ((![v185] : Fin 1 → IVec S16 32) a x).toNat < S32.size a := fun v185 k0_hw6 => k0_hw6.1
theorem k0_idx12_inb : ∀ (v185 : IVec S16 32) (k0_hw6 : k0_chk6 v185), ∀ a x, ((![v185] : Fin 1 → IVec S16 32) a x).toNat < S32.size a := fun v185 k0_hw6 => k0_hw6.2
def k0_off25 (k0_t7 : Fin k0_t7_loop.trips) : Fin 1 → Nat :=
  let c0_i32_85 : BitVec 32 := 0#32
  let c0_i32_57 : BitVec 32 := 0#32
  let c1_i32_59 : BitVec 32 := 1#32
  let arg41 : BitVec 32 := Scf.iv c0_i32_57 c1_i32_59 k0_t7
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond12 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c5_i32 : BitVec 32 := 5#32
  let v129 : BitVec 32 := Scalar.addi v53 c5_i32
  let c8_i32_61 : BitVec 32 := 8#32
  let v140 : BitVec 32 := Scalar.addi v129 c8_i32_61
  let c128_i32_62 : BitVec 32 := 128#32
  let v141 : BitVec 1 := Scalar.cmpi .slt v140 c128_i32_62
  let v142 : BitVec 32 := Scalar.extui v141
  let c0_i32_63 : BitVec 32 := 0#32
  let v143 : BitVec 1 := Scalar.cmpi .ne v142 c0_i32_63
  v143

def k0_off26 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c5_i32 : BitVec 32 := 5#32
  let v129 : BitVec 32 := Scalar.addi v53 c5_i32
  let c4096_i32_54 : BitVec 32 := 4096#32
  let v130 : BitVec 32 := Scalar.muli v129 c4096_i32_54
  let v131 : BitVec 32 := Scalar.addi v2 v130
  let c32768_i32 : BitVec 32 := 32768#32
  let v174 : BitVec 32 := Scalar.addi v131 c32768_i32
  ![v174.toNat]
def k0_cond13 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c6_i32 : BitVec 32 := 6#32
  let v144 : BitVec 32 := Scalar.addi v53 c6_i32
  let c8_i32_65 : BitVec 32 := 8#32
  let v149 : BitVec 1 := Scalar.cmpi .sge v144 c8_i32_65
  let v150 : BitVec 32 := Scalar.extui v149
  let c0_i32_66 : BitVec 32 := 0#32
  let v151 : BitVec 1 := Scalar.cmpi .ne v150 c0_i32_66
  v151

def k0_off27 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c6_i32 : BitVec 32 := 6#32
  let v144 : BitVec 32 := Scalar.addi v53 c6_i32
  let c4096_i32_64 : BitVec 32 := 4096#32
  let v145 : BitVec 32 := Scalar.muli v144 c4096_i32_64
  let v146 : BitVec 32 := Scalar.addi v2 v145
  let c32768_i32 : BitVec 32 := 32768#32
  let v174 : BitVec 32 := Scalar.subi v146 c32768_i32
  ![v174.toNat]
@[reducible] def k0_t8_loop : Scf.Loop 32 :=
  let c0_i32_67 : BitVec 32 := 0#32
  let c256_i32_68 : BitVec 32 := 256#32
  let v152 : BitVec 32 := Scalar.addi c0_i32_67 c256_i32_68
  let c1_i32_69 : BitVec 32 := 1#32
  ⟨c0_i32_67, v152, c1_i32_69⟩
def k0_off28 (k0_t8 : Fin k0_t8_loop.trips) : Fin 1 → Nat :=
  let c0_i32_85 : BitVec 32 := 0#32
  let c0_i32_67 : BitVec 32 := 0#32
  let c1_i32_69 : BitVec 32 := 1#32
  let arg41 : BitVec 32 := Scf.iv c0_i32_67 c1_i32_69 k0_t8
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk7 (v185 : IVec S16 32) : Prop :=
  (∀ a x, ((![v185] : Fin 1 → IVec S16 32) a x).toNat < S32.size a) ∧
  (∀ a x, ((![v185] : Fin 1 → IVec S16 32) a x).toNat < S32.size a)
theorem k0_idx13_inb : ∀ (v185 : IVec S16 32) (k0_hw7 : k0_chk7 v185), ∀ a x, ((![v185] : Fin 1 → IVec S16 32) a x).toNat < S32.size a := fun v185 k0_hw7 => k0_hw7.1
theorem k0_idx14_inb : ∀ (v185 : IVec S16 32) (k0_hw7 : k0_chk7 v185), ∀ a x, ((![v185] : Fin 1 → IVec S16 32) a x).toNat < S32.size a := fun v185 k0_hw7 => k0_hw7.2
def k0_off29 (k0_t8 : Fin k0_t8_loop.trips) : Fin 1 → Nat :=
  let c0_i32_85 : BitVec 32 := 0#32
  let c0_i32_67 : BitVec 32 := 0#32
  let c1_i32_69 : BitVec 32 := 1#32
  let arg41 : BitVec 32 := Scf.iv c0_i32_67 c1_i32_69 k0_t8
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond14 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c6_i32 : BitVec 32 := 6#32
  let v144 : BitVec 32 := Scalar.addi v53 c6_i32
  let c8_i32_71 : BitVec 32 := 8#32
  let v155 : BitVec 32 := Scalar.addi v144 c8_i32_71
  let c128_i32_72 : BitVec 32 := 128#32
  let v156 : BitVec 1 := Scalar.cmpi .slt v155 c128_i32_72
  let v157 : BitVec 32 := Scalar.extui v156
  let c0_i32_73 : BitVec 32 := 0#32
  let v158 : BitVec 1 := Scalar.cmpi .ne v157 c0_i32_73
  v158

def k0_off30 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c6_i32 : BitVec 32 := 6#32
  let v144 : BitVec 32 := Scalar.addi v53 c6_i32
  let c4096_i32_64 : BitVec 32 := 4096#32
  let v145 : BitVec 32 := Scalar.muli v144 c4096_i32_64
  let v146 : BitVec 32 := Scalar.addi v2 v145
  let c32768_i32 : BitVec 32 := 32768#32
  let v174 : BitVec 32 := Scalar.addi v146 c32768_i32
  ![v174.toNat]
def k0_cond15 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c7_i32 : BitVec 32 := 7#32
  let v159 : BitVec 32 := Scalar.addi v53 c7_i32
  let c8_i32_75 : BitVec 32 := 8#32
  let v164 : BitVec 1 := Scalar.cmpi .sge v159 c8_i32_75
  let v165 : BitVec 32 := Scalar.extui v164
  let c0_i32_76 : BitVec 32 := 0#32
  let v166 : BitVec 1 := Scalar.cmpi .ne v165 c0_i32_76
  v166

def k0_off31 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c7_i32 : BitVec 32 := 7#32
  let v159 : BitVec 32 := Scalar.addi v53 c7_i32
  let c4096_i32_74 : BitVec 32 := 4096#32
  let v160 : BitVec 32 := Scalar.muli v159 c4096_i32_74
  let v161 : BitVec 32 := Scalar.addi v2 v160
  let c32768_i32 : BitVec 32 := 32768#32
  let v174 : BitVec 32 := Scalar.subi v161 c32768_i32
  ![v174.toNat]
@[reducible] def k0_t9_loop : Scf.Loop 32 :=
  let c0_i32_77 : BitVec 32 := 0#32
  let c256_i32_78 : BitVec 32 := 256#32
  let v167 : BitVec 32 := Scalar.addi c0_i32_77 c256_i32_78
  let c1_i32_79 : BitVec 32 := 1#32
  ⟨c0_i32_77, v167, c1_i32_79⟩
def k0_off32 (k0_t9 : Fin k0_t9_loop.trips) : Fin 1 → Nat :=
  let c0_i32_85 : BitVec 32 := 0#32
  let c0_i32_77 : BitVec 32 := 0#32
  let c1_i32_79 : BitVec 32 := 1#32
  let arg41 : BitVec 32 := Scf.iv c0_i32_77 c1_i32_79 k0_t9
  let c1_i32_84 : BitVec 32 := 1#32
  let v174 : BitVec 32 := Scalar.muli arg41 c1_i32_84
  let v175 : BitVec 32 := Scalar.addi c0_i32_85 v174
  let c16_i32_86 : BitVec 32 := 16#32
  let v176 : BitVec 32 := Scalar.muli v175 c16_i32_86
  let v177 : Index := Scalar.indexCast v176
  ![v177.toNat]

def k0_chk8 (v185 : IVec S16 32) : Prop :=
  (∀ a x, ((![v185] : Fin 1 → IVec S16 32) a x).toNat < S32.size a) ∧
  (∀ a x, ((![v185] : Fin 1 → IVec S16 32) a x).toNat < S32.size a)
theorem k0_idx15_inb : ∀ (v185 : IVec S16 32) (k0_hw8 : k0_chk8 v185), ∀ a x, ((![v185] : Fin 1 → IVec S16 32) a x).toNat < S32.size a := fun v185 k0_hw8 => k0_hw8.1
theorem k0_idx16_inb : ∀ (v185 : IVec S16 32) (k0_hw8 : k0_chk8 v185), ∀ a x, ((![v185] : Fin 1 → IVec S16 32) a x).toNat < S32.size a := fun v185 k0_hw8 => k0_hw8.2
def k0_off33 (k0_t9 : Fin k0_t9_loop.trips) : Fin 1 → Nat :=
  let c0_i32_85 : BitVec 32 := 0#32
  let c0_i32_77 : BitVec 32 := 0#32
  let c1_i32_79 : BitVec 32 := 1#32
  let arg41 : BitVec 32 := Scf.iv c0_i32_77 c1_i32_79 k0_t9
  let c1_i32_84 : BitVec 32 := 1#32
  let v174 : BitVec 32 := Scalar.muli arg41 c1_i32_84
  let v175 : BitVec 32 := Scalar.addi c0_i32_85 v174
  let c16_i32_88 : BitVec 32 := 16#32
  let v190 : BitVec 32 := Scalar.muli v175 c16_i32_88
  let v191 : Index := Scalar.indexCast v190
  ![v191.toNat]
def k0_cond16 (k0_t1 : Fin k0_t1_loop.trips) : BitVec 1 :=
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c7_i32 : BitVec 32 := 7#32
  let v159 : BitVec 32 := Scalar.addi v53 c7_i32
  let c8_i32_81 : BitVec 32 := 8#32
  let v170 : BitVec 32 := Scalar.addi v159 c8_i32_81
  let c128_i32_82 : BitVec 32 := 128#32
  let v171 : BitVec 1 := Scalar.cmpi .slt v170 c128_i32_82
  let v172 : BitVec 32 := Scalar.extui v171
  let c0_i32_83 : BitVec 32 := 0#32
  let v173 : BitVec 1 := Scalar.cmpi .ne v172 c0_i32_83
  v173

def k0_off34 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_2 : BitVec 32 := 0#32
  let c0_i32_0 : BitVec 32 := 0#32
  let c1_i32 : BitVec 32 := 1#32
  let arg40 : BitVec 32 := Scf.iv c0_i32_0 c1_i32 k0_t1
  let c8_i32 : BitVec 32 := 8#32
  let v52 : BitVec 32 := Scalar.muli arg40 c8_i32
  let v53 : BitVec 32 := Scalar.addi c0_i32_2 v52
  let c7_i32 : BitVec 32 := 7#32
  let v159 : BitVec 32 := Scalar.addi v53 c7_i32
  let c4096_i32_74 : BitVec 32 := 4096#32
  let v160 : BitVec 32 := Scalar.muli v159 c4096_i32_74
  let v161 : BitVec 32 := Scalar.addi v2 v160
  let c32768_i32 : BitVec 32 := 32768#32
  let v174 : BitVec 32 := Scalar.addi v161 c32768_i32
  ![v174.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S33 : Shape := ⟨1, ![33]⟩
abbrev S32 : Shape := ⟨1, ![32]⟩
abbrev S_ : Shape := ⟨0, ![]⟩
abbrev S1 : Shape := ⟨1, ![1]⟩
abbrev S1x33 : Shape := ⟨2, ![1, 33]⟩
abbrev S16777216x1 : Shape := ⟨2, ![16777216, 1]⟩
abbrev S16777216x33 : Shape := ⟨2, ![16777216, 33]⟩

abbrev nBuf : Space → Nat
  | .hbm => 86
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S33, .f32⟩
  | .hbm, ⟨2, _⟩ => ⟨S32, .f32⟩
  | .hbm, ⟨3, _⟩ => ⟨S_, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .i1⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1, .f32⟩
  | .hbm, ⟨22, _⟩ => ⟨S33, .f32⟩
  | .hbm, ⟨23, _⟩ => ⟨S_, .f32⟩
  | .hbm, ⟨24, _⟩ => ⟨S_, .f32⟩
  | .hbm, ⟨25, _⟩ => ⟨S33, .f32⟩
  | .hbm, ⟨26, _⟩ => ⟨S1x33, .f32⟩
  | .hbm, ⟨27, _⟩ => ⟨S16777216x1, .f32⟩
  | .hbm, ⟨28, _⟩ => ⟨S16777216x33, .f32⟩
  | .hbm, ⟨29, _⟩ => ⟨S16777216x33, .f32⟩
  | .hbm, ⟨30, _⟩ => ⟨S16777216x33, .i1⟩
  | .hbm, ⟨31, _⟩ => ⟨S16777216x33, .i32⟩
  | .hbm, ⟨32, _⟩ => ⟨S_, .i32⟩
  | .hbm, ⟨33, _⟩ => ⟨S16777216, .i32⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S16777216, .i32⟩
  | .hbm, ⟨41, _⟩ => ⟨S16777216, .i32⟩
  | .hbm, ⟨42, _⟩ => ⟨S_, .i32⟩
  | .hbm, ⟨43, _⟩ => ⟨S16777216, .i32⟩
  | .hbm, ⟨44, _⟩ => ⟨S16777216, .i32⟩
  | .hbm, ⟨45, _⟩ => ⟨S_, .i32⟩
  | .hbm, ⟨46, _⟩ => ⟨S16777216, .i32⟩
  | .hbm, ⟨47, _⟩ => ⟨S16777216, .i1⟩
  | .hbm, ⟨48, _⟩ => ⟨S_, .i32⟩
  | .hbm, ⟨49, _⟩ => ⟨S16777216, .i32⟩
  | .hbm, ⟨50, _⟩ => ⟨S16777216, .i32⟩
  | .hbm, ⟨51, _⟩ => ⟨S16777216, .i32⟩
  | .hbm, ⟨52, _⟩ => ⟨S16777216x1, .i32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S1, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S33, .f32⟩
  | .hbm, ⟨63, _⟩ => ⟨S_, .f32⟩
  | .hbm, ⟨64, _⟩ => ⟨S_, .f32⟩
  | .hbm, ⟨65, _⟩ => ⟨S33, .f32⟩
  | .hbm, ⟨66, _⟩ => ⟨S_, .i32⟩
  | .hbm, ⟨67, _⟩ => ⟨S16777216, .i32⟩
  | .hbm, ⟨68, _⟩ => ⟨S16777216, .i1⟩
  | .hbm, ⟨69, _⟩ => ⟨S_, .i32⟩
  | .hbm, ⟨70, _⟩ => ⟨S16777216, .i32⟩
  | .hbm, ⟨71, _⟩ => ⟨S16777216, .i32⟩
  | .hbm, ⟨72, _⟩ => ⟨S16777216, .i32⟩
  | .hbm, ⟨73, _⟩ => ⟨S16777216x1, .i32⟩
  | .hbm, ⟨74, _⟩ => ⟨S16777216, .f32⟩
  | .hbm, ⟨75, _⟩ => ⟨S_, .i32⟩
  | .hbm, ⟨76, _⟩ => ⟨S16777216, .i32⟩
  | .hbm, ⟨77, _⟩ => ⟨S16777216, .i1⟩
  | .hbm, ⟨78, _⟩ => ⟨S_, .i32⟩
  | .hbm, ⟨79, _⟩ => ⟨S16777216, .i32⟩
  | .hbm, ⟨80, _⟩ => ⟨S16777216, .i32⟩
  | .hbm, ⟨81, _⟩ => ⟨S16777216, .i32⟩
  | .hbm, ⟨82, _⟩ => ⟨S16777216x1, .i32⟩
  | .hbm, ⟨83, _⟩ => ⟨S16777216, .f32⟩
  | .hbm, ⟨84, _⟩ => ⟨S16777216, .f32⟩
  | .hbm, ⟨85, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_call0_cst : Ref sig .tc := ⟨.hbm, 23, rfl⟩
abbrev main_call1_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_c_2 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_v24 : Ref sig .tc := ⟨.hbm, 56, rfl⟩
abbrev main_v25 : Ref sig .tc := ⟨.hbm, 57, rfl⟩
abbrev main_call3_v0 : Ref sig .tc := ⟨.hbm, 58, rfl⟩
abbrev main_call3_v1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call4_call0_cst : Ref sig .tc := ⟨.hbm, 63, rfl⟩
abbrev main_call4_call0_v0 : Ref sig .tc := ⟨.hbm, 64, rfl⟩
abbrev main_v29 : Ref sig .tc := ⟨.hbm, 65, rfl⟩
abbrev main_c_6 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_8 : Ref sig .tc := ⟨.hbm, 75, rfl⟩
abbrev main_v37 : Ref sig .tc := ⟨.hbm, 76, rfl⟩
abbrev main_v38 : Ref sig .tc := ⟨.hbm, 77, rfl⟩
abbrev main_c_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩

abbrev nD : Nat := 1
abbrev τ : Topo := Topo.v7x

variable {F : FTy → Type} [FloatOps F]
-- ==== Proof.Setup.lean ====
/-
  The program as the launch theorem sees it, the values its one SparseCore kernel computes, and the pieces of the two
  long arrays that a vector subcore's eight buffers work on.

  The sixteen million elements of `t` and of the result are 4096 chunks of 4096 elements. Vector subcore `(c, s)` owns
  the 128 chunks of piece `2 s + c`; its buffer `b` serves the sixteen of them whose number is `b` modulo 8, one per
  trip of the kernel's outer loop.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The launch handshakes' part of the user algebra, and beside it the counters of the kernel's own copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays the kernel reads and writes -/

abbrev tLoc (d : Dev nD) : Loc nD τ sig := (SparseCore.T d).loc main_arg0
abbrev aLoc (d : Dev nD) : Loc nD τ sig := (SparseCore.T d).loc main_v16
abbrev bLoc (d : Dev nD) : Loc nD τ sig := (SparseCore.T d).loc main_v17
abbrev oLoc (d : Dev nD) : Loc nD τ sig := (SparseCore.T d).loc main_v18

abbrev tV : Memref sig .scVector .hbm S16777216 .f32 := Memref.whole main_arg0_scv
abbrev aV : Memref sig .scVector .hbm S32 .f32 := Memref.whole main_v16_scv
abbrev bV : Memref sig .scVector .hbm S32 .f32 := Memref.whole main_v17_scv
abbrev oV : Memref sig .scVector .hbm S16777216 .f32 := Memref.whole main_v18_scv

/-! ## What the kernel computes at one element -/

variable [FloatOps F]

/-- The number of the segment of `t`: the integer part of `(t + 1) · 32`, its low five bits. -/
def seg (t : F .f32) : BitVec 32 :=
  IntOp.andi (FloatOps.fptosi 32 (FloatOps.mulf (FloatOps.addf t (Scalar.ofBits .f32 0x3F800000#32)) (Scalar.ofBits .f32 0x42000000#32))) 31#32

theorem seg_lt (t : F .f32) : (seg t).toNat < 32 := by
  unfold seg IntOp.andi
  rw [BitVec.toNat_and]
  exact lt_of_le_of_lt Nat.and_le_right (by decide)

/-- The table row of `t`. -/
def segIx (t : F .f32) : S32.Idx := fun a => ⟨(seg t).toNat, by fin_cases a; exact seg_lt t⟩

/-- The result at `t` off the tables of offsets `A` and slopes `B`. -/
def outAt (A B : FVec F S32 .f32) (t : F .f32) : F .f32 :=
  FloatOps.addf (A (segIx t)) (FloatOps.mulf (B (segIx t)) t)

/-- The result at every element of `t`. -/
def outV (A B : FVec F S32 .f32) (t : FVec F S16777216 .f32) : FVec F S16777216 .f32 := fun k => outAt A B (t k)

/-! ## Chunks and lanes -/

/-- The elements of chunk `N`. -/
def Chk (N : ℕ) : Finset S16777216.Idx := Finset.univ.filter fun k => (k 0).val / 4096 = N

/-- The elements that buffer `b` of the subcore with piece `w` serves. -/
def Lane (w b : ℕ) : Finset S16777216.Idx := Finset.univ.filter fun k => (k 0).val / 524288 = w ∧ (k 0).val / 4096 % 8 = b

omit [FloatOps F] in
theorem mem_Chk {N : ℕ} {k : S16777216.Idx} : k ∈ Chk N ↔ (k 0).val / 4096 = N := by simp [Chk]
omit [FloatOps F] in
theorem mem_Lane {w b : ℕ} {k : S16777216.Idx} : k ∈ Lane w b ↔ (k 0).val / 524288 = w ∧ (k 0).val / 4096 % 8 = b := by simp [Lane]

omit [FloatOps F] in
/-- Chunk `g` of a lane lies in the lane. -/
theorem Chk_subset {w b g : ℕ} (hb : b < 8) (hg : g < 16) : Chk (128 * w + 8 * g + b) ⊆ Lane w b := fun k hk => by
  rw [mem_Chk] at hk; rw [mem_Lane]; omega

/-- Chunk `N` as a slice of a long array. -/
abbrev chunkR (off : Fin 1 → ℕ) (h : ∀ a, off a + S4096.size a ≤ S16777216.size a) : Rect S16777216 :=
  Rect.unit (s := S16777216) off S4096.size h

omit [FloatOps F] in
theorem set_chunkR {N : ℕ} {off : Fin 1 → ℕ} (h) (e : off = ![4096 * N]) : (chunkR off h).set = Chk N := by
  subst e
  ext k
  rw [Rect.mem_set_unit, mem_Chk]
  constructor
  · intro hk
    have := hk 0
    simp at this
    omega
  · intro hk a
    fin_cases a
    simp
    omega

omit [FloatOps F] in
theorem set_tChunk {N : ℕ} {off : Fin 1 → ℕ} (h) (e : off = ![4096 * N]) :
    ((tV).slice (chunkR off h) (fun _ => rfl)).view.set = Chk N := by
  show ((View.whole (main_arg0_scv : Ref sig .scVector)).slice (chunkR off h)).set = _
  rw [View.set_slice]; exact (Finset.map_refl).trans (set_chunkR h e)

omit [FloatOps F] in
theorem set_oChunk {N : ℕ} {off : Fin 1 → ℕ} (h) (e : off = ![4096 * N]) :
    ((oV).slice (chunkR off h) (fun _ => rfl)).view.set = Chk N := by
  show ((View.whole (main_v18_scv : Ref sig .scVector)).slice (chunkR off h)).set = _
  rw [View.set_slice]; exact (Finset.map_refl).trans (set_chunkR h e)

/-- What a buffer reads is chunk `N` of `v`. -/
def Holds (N : ℕ) (v : FVec F S16777216 .f32) (x : FVec F S4096 .f32) : Prop :=
  ∀ (j : S4096.Idx) (k : S16777216.Idx), (k 0).val = 4096 * N + (j 0).val → x j = v k

end Cert.Proof.Plf

end
-- ==== Proof.Steps.lean ====
/-
  One buffer of a vector subcore through one trip of the outer loop, a step at a time: the wait for the chunk of `t`
  that a copy brings, the wait for the copy of the previous result out, the start of the copy of the new result out, the
  start of the copy of the next chunk in. A buffer's two copies are stated by what each delivers at its wait.
-/
module

public import proofs.«01_k».proof.Proof.Setup

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {F : FTy → Type} [FloatOps F]

local notation "𝕄" => MT nD τ sig (HIx 1) (Elt F) ℕ UU ℕ

variable (d : Dev nD) (c : Fin τ.nSC) (s : Fin τ.nSub)

/-! ## What a buffer holds, and the copies in flight -/

/-- The tile's record of its waits: those it began with and those of its own copies. -/
def Ow (O : CellTallies nD τ sig (HIx 1)) (W : Waits sig (HIx 1)) : sProp 𝕄 :=
  iprop(∃ W', ⌜∀ p ∈ W', p ∈ W ∨ p.2 = none⌝ ∗ owes (V d c s) O W')

/-- A scratch buffer at some contents. -/
def Any (m : Memref sig .scVector .vmem S4096 .f32) : sProp 𝕄 :=
  iprop(∃ f, m.view.loc (V d c s) ↦[m.view.set]{fullShare} f)

/-- A scratch buffer holding chunk `N` of `v`. -/
def At (m : Memref sig .scVector .vmem S4096 .f32) (v : FVec F S16777216 .f32) (N : ℕ) : sProp 𝕄 :=
  iprop(∃ f, ⌜Holds N v (m.view.read (Elt F) f)⌝ ∗ m.view.loc (V d c s) ↦[m.view.set]{fullShare} f)

variable (t : Buf (Elt F) (tLoc d)) (o : FVec F S16777216 .f32)

/-- The units that the copy of a chunk out pays. -/
abbrev outCredit : ℕ := sig.dmaCredit .scVector (Kind.scVector.table .hbm) (main_v18_scv : Ref sig .scVector).idx S4096 .f32

theorem outCredit_pos : 0 < outCredit := sig.dmaCredit_pos _ _ _ _ _ (by decide)

/-- The elements `I` of the result, those of chunks before `N` at their final values. -/
def Done (I : Finset S16777216.Idx) (N : ℕ) : sProp 𝕄 :=
  iprop(∃ f : Buf (Elt F) (oLoc d), ⌜∀ k ∈ I, (k 0).val / 4096 < N → f k = o k⌝ ∗ oLoc d ↦[I]{fullShare} f)

/-- The copy of chunk `N` of `t` into buffer `tb` is under way. -/
def InFly (w b N : ℕ) (tb : Memref sig .scVector .vmem S4096 .f32) (sm : DmaSem sig) : sProp 𝕄 :=
  iprop(Flight countersEmb (V d c s) (.dma sm) none tb.view.dmaCredit
      iprop(At d c s tb t N ∗ (tLoc d ↦[Chk N]{fullShare} t)) ∗ (tLoc d ↦[Lane w b \ Chk N]{fullShare} t))

/-- Nothing is under way into `tb`. -/
def InIdle (w b : ℕ) (sm : DmaSem sig) : sProp 𝕄 :=
  iprop((tLoc d ↦[Lane w b]{fullShare} t) ∗ semVal (V d c s, .dma sm) 0)

/-- The copy of buffer `ob` out to chunk `N` of the result is under way. -/
def OutFly (w b N : ℕ) (ob : Memref sig .scVector .vmem S4096 .f32) (sm : DmaSem sig) : sProp 𝕄 :=
  iprop(Flight countersEmb (V d c s) (.dma sm) none outCredit
      iprop((oLoc d ↦[Chk N]{fullShare} o) ∗ Any d c s ob) ∗ Done d o (Lane w b \ Chk N) N)

/-- Nothing is under way out of `ob`; the chunks before `N` are final. -/
def OutIdle (w b N : ℕ) (sm : DmaSem sig) : sProp 𝕄 :=
  iprop(Done d o (Lane w b) N ∗ semVal (V d c s, .dma sm) 0)

/-! ## The steps -/

omit [FloatOps F] in
theorem read_tChunk {N : ℕ} {off : Fin 1 → ℕ} (h) (e : off = ![4096 * N]) :
    Holds N t (((tV).slice (chunkR off h) (fun _ => rfl)).view.read (Elt F) t) := by
  subst e
  intro j k hk
  refine ((View.read_apply _ _).trans (cast_eq _ _)).trans (congrArg t ?_)
  funext a
  fin_cases a
  exact Fin.ext (by
    show 4096 * N + 1 * (j 0).val = (k 0).val
    omega)

omit [FloatOps F] in
theorem write_oChunk {N : ℕ} {off : Fin 1 → ℕ} (h) (e : off = ![4096 * N]) (f : Buf (Elt F) (oLoc d))
    (x : FVec F S4096 .f32) (hx : Holds N o x) :
    ∀ k ∈ Chk N, ((oV).slice (chunkR off h) (fun _ => rfl)).view.write (Elt F) f x Finset.univ k = o k := by
  intro k hk
  rw [← set_oChunk h e] at hk
  obtain ⟨j, -, rfl⟩ := Finset.mem_map.mp hk
  refine (View.write_emb_of_mem (v := ((oV).slice (chunkR off h) (fun _ => rfl)).view) f x (Finset.mem_univ j)).trans ((cast_eq _ _).trans ?_)
  refine hx j _ ?_
  subst e
  show 4096 * N + 1 * (j 0).val = 4096 * N + (j 0).val
  omega

omit [FloatOps F] in
theorem at_of_write {m : Memref sig .scVector .vmem S4096 .f32} {v : FVec F S16777216 .f32} {N : ℕ} {x : FVec F S4096 .f32}
    (hx : Holds N v x) (f : Buf (Elt F) (m.view.loc (V d c s))) :
    (m.view.loc (V d c s) ↦[m.view.set]{fullShare} (m.view.write (Elt F) f x Finset.univ)) ⊢ At d c s m v N := by
  unfold At
  iintro H
  iexists _
  isplitr
  swap; · iexact H
  ipureintro
  rw [View.read_write_univ]
  exact hx

omit [FloatOps F] in
theorem any_of_at {m : Memref sig .scVector .vmem S4096 .f32} {v : FVec F S16777216 .f32} {N : ℕ} :
    At d c s m v N ⊢ Any d c s m := by
  unfold At Any
  iintro ⟨%f, -, H⟩
  iexists _
  iexact H

section Step

variable {α : Type} {Q : α → sProp (MT nD τ sig (HIx 1) (Elt F) ℕ UU ℕ)}
variable {tb ob : Memref sig .scVector .vmem S4096 .f32} {sm : DmaSem sig}
variable {w b g N : ℕ}
variable {k : PUnit → Prog (TpuEff nD τ sig (Elt F) Λ₀ (.scVector c s)) α}

/-- The start of the copy of chunk `N` of `t` into `tb`. -/
theorem start_in {off : Fin 1 → ℕ} {h} {h₁ h₂ h₃} (hb : b < 8) (hg : g < 16) (hN : N = 128 * w + 8 * g + b)
    (hoff : off = ![4096 * N]) :
    iprop(InIdle d c s t w b sm ∗ Any d c s tb)
      ⊢ iprop((InFly d c s t w b N tb sm -∗ wp frame (wpE (defs₀ (F := F)) 𝒱₀ (V d c s) none) Set.univ (k ⟨⟩) Q)
          -∗ wp frame (wpE (defs₀ (F := F)) 𝒱₀ (V d c s) none) Set.univ
              (Prog.lift (.enqueueDma ((tV).slice (chunkR off h) (fun _ => rfl)) (.here tb) (.dma sm) h₁ h₂ h₃) >>= k) Q) := by
  unfold InIdle Any InFly
  iintro ⟨⟨Ht, Hs⟩, %f, Hb⟩ Hk
  have hsub : Chk N ⊆ Lane w b := hN ▸ Chk_subset hb hg
  ihave H := (pointsTo_split_subset (ℓ := tLoc d) (q := fullShare) (f := t) hsub).1 $$ Ht
  icases H with ⟨Hc, Hr⟩
  have hset := set_tChunk h hoff
  have hpt : (tLoc d ↦[Chk N]{fullShare} t : sProp 𝕄)
      = ((tV).slice (chunkR off h) (fun _ => rfl)).view.loc (V d c s) ↦[((tV).slice (chunkR off h) (fun _ => rfl)).view.set]{fullShare} t := by
    rw [hset]
  ihave Hc' := (Entails.of_eq hpt) $$ Hc
  iapply (Transfers.wp_dmaLocal countersEmb 𝒱₀ (V d c s) none (none : HIx 1) tb.view.dmaCredit rfl
    (View.dmaCredit_pos _ (by decide)) (subset_refl _)) $$ [Hc' Hb Hs]
  · isplitl [Hc']; · iexact Hc'
    isplitl [Hb]; · iexact Hb
    iexact Hs
  iintro Hf
  iapply Hk
  isplitr [Hr]
  swap; · iexact Hr
  iapply (Transfers.Flight_mono countersEmb (V d c s) (BI.sep_mono
    (at_of_write d c s (v := t) (N := N) (read_tChunk d t h hoff) f) (Entails.of_eq hpt.symm))) $$ Hf

/-- The wait for the chunk of `t` that is under way into `tb`. -/
theorem wait_in {sp : Space} {s' : Shape} {e' : EltTy} {src : Memref sig .scVector sp s' e'} {h₁ h₂}
    {O : CellTallies nD τ sig (HIx 1)} {W : Waits sig (HIx 1)} (hO : ∀ x, O x none = 0)
    (hb : b < 8) (hg : g < 16) (hN : N = 128 * w + 8 * g + b) :
    iprop(levAts (K (F := F)).L (K (F := F)).lev ∗ InFly d c s t w b N tb sm ∗ Ow d c s O W)
      ⊢ iprop(((InIdle d c s t w b sm ∗ At d c s tb t N ∗ Ow d c s O W)
            -∗ wp frame (wpE (defs₀ (F := F)) 𝒱₀ (V d c s) none) Set.univ (k ⟨⟩) Q)
          -∗ wp frame (wpE (defs₀ (F := F)) 𝒱₀ (V d c s) none) Set.univ
              (Prog.lift (.waitDma2 sm src tb h₁ h₂) >>= k) Q) := by
  unfold InFly InIdle Ow
  iintro ⟨Hlv, ⟨Hf, Hr⟩, %W', %hW', HO⟩ Hk
  iapply (Transfers.wp_waitLocalO countersEmb 𝒱₀ (V d c s) none (none : HIx 1) (rfl : tb.view.dmaCredit = _)) $$ [Hlv Hf HO]
  · isplitl [Hf]; · iexact Hf
    isplitl [HO]; · iexact HO
    iapply ((K (F := F)).mayWait_none (thr := V d c s) (SemLoc.dma sm) hO) $$ Hlv
  iintro ⟨⟨Hb, Hc⟩, Hs, HO⟩
  iapply Hk
  have hsub : Chk N ⊆ Lane w b := hN ▸ Chk_subset hb hg
  isplitl [Hc Hr Hs]
  · isplitl [Hc Hr]
    · iapply (pointsTo_split_subset (ℓ := tLoc d) (q := fullShare) (f := t) hsub).2
      isplitl [Hc] <;> iassumption
    · iexact Hs
  isplitl [Hb]; · iexact Hb
  iexists _; isplitr
  swap; · iexact HO
  ipureintro
  intro p hp
  rcases Finset.mem_insert.mp hp with hp | hp
  · exact .inr (hp ▸ rfl)
  · exact hW' p hp

/-- The start of the copy of `ob` out to chunk `N` of the result. -/
theorem start_out {off : Fin 1 → ℕ} {h} {h₁ h₂ h₃} (hb : b < 8) (hg : g < 16) (hN : N = 128 * w + 8 * g + b)
    (hoff : off = ![4096 * N]) :
    iprop(OutIdle d c s o w b N sm ∗ At d c s ob o N)
      ⊢ iprop((OutFly d c s o w b N ob sm -∗ wp frame (wpE (defs₀ (F := F)) 𝒱₀ (V d c s) none) Set.univ (k ⟨⟩) Q)
          -∗ wp frame (wpE (defs₀ (F := F)) 𝒱₀ (V d c s) none) Set.univ
              (Prog.lift (.enqueueDma ob (.here ((oV).slice (chunkR off h) (fun _ => rfl))) (.dma sm) h₁ h₂ h₃) >>= k) Q) := by
  unfold OutIdle At OutFly Done
  iintro ⟨⟨⟨%f, %hf, Ho⟩, Hs⟩, %x, %hx, Hb⟩ Hk
  have hsub : Chk N ⊆ Lane w b := hN ▸ Chk_subset hb hg
  ihave H := (pointsTo_split_subset (ℓ := oLoc d) (q := fullShare) (f := f) hsub).1 $$ Ho
  icases H with ⟨Hc, Hr⟩
  have hset := set_oChunk h hoff
  iapply (Transfers.wp_dmaLocal countersEmb 𝒱₀ (V d c s) none (dst := (oV).slice (chunkR off h) (fun _ => rfl))
    (none : HIx 1) outCredit rfl outCredit_pos (Sd := Chk N) (by rw [hset])) $$ [Hc Hb Hs]
  · isplitl [Hb]; · iexact Hb
    isplitl [Hc]; · iexact Hc
    iexact Hs
  iintro Hf
  iapply Hk
  isplitr [Hr]
  swap
  · iexists f
    isplitr
    · ipureintro; exact fun k hk => hf k (Finset.mem_sdiff.mp hk).1
    · iexact Hr
  iapply (Transfers.Flight_mono countersEmb (V d c s) (BI.sep_mono
    (Entails.of_eq (pointsTo_congr (write_oChunk d o h hoff f _ hx)))
    (show (ob.view.loc (V d c s) ↦[ob.view.set]{fullShare} x) ⊢ Any d c s ob by unfold Any; iintro H; iexists _; iexact H))) $$ Hf

/-- The wait for the copy of `ob` out to chunk `N'`, the one before `N` in the lane. -/
theorem wait_out {sp : Space} {s' : Shape} {e' : EltTy} {src : Memref sig .scVector sp s' e'} {off : Fin 1 → ℕ} {h} {h₁ h₂}
    {O : CellTallies nD τ sig (HIx 1)} {W : Waits sig (HIx 1)} (hO : ∀ x, O x none = 0)
    {N' : ℕ} (hb : b < 8) (hg : g < 16) (hN' : N' = 128 * w + 8 * g + b) (hN : N = N' + 8) :
    iprop(levAts (K (F := F)).L (K (F := F)).lev ∗ OutFly d c s o w b N' ob sm ∗ Ow d c s O W)
      ⊢ iprop(((OutIdle d c s o w b N sm ∗ Any d c s ob ∗ Ow d c s O W)
            -∗ wp frame (wpE (defs₀ (F := F)) 𝒱₀ (V d c s) none) Set.univ (k ⟨⟩) Q)
          -∗ wp frame (wpE (defs₀ (F := F)) 𝒱₀ (V d c s) none) Set.univ
              (Prog.lift (.waitDma2 sm src ((oV).slice (chunkR off h) (fun _ => rfl)) h₁ h₂) >>= k) Q) := by
  unfold OutFly OutIdle Ow Done
  iintro ⟨Hlv, ⟨Hf, %f, %hf, Hr⟩, %W', %hW', HO⟩ Hk
  iapply (Transfers.wp_waitLocalO countersEmb 𝒱₀ (V d c s) none (none : HIx 1)
    (show ((oV).slice (chunkR off h) (fun _ => rfl)).view.dmaCredit = outCredit from rfl)) $$ [Hlv Hf HO]
  · isplitl [Hf]; · iexact Hf
    isplitl [HO]; · iexact HO
    iapply ((K (F := F)).mayWait_none (thr := V d c s) (SemLoc.dma sm) hO) $$ Hlv
  iintro ⟨⟨Hc, Hb⟩, Hs, HO⟩
  iapply Hk
  have hsub : Chk N' ⊆ Lane w b := hN' ▸ Chk_subset hb hg
  isplitl [Hc Hr Hs]
  · isplitl [Hc Hr]
    · ihave H := (pointsTo_join_subset (ℓ := oLoc d) (q := fullShare) (g := o) (f := f) hsub) $$ [Hc Hr]
      · isplitl [Hc] <;> iassumption
      iexists _
      isplitr
      swap; · iexact H
      ipureintro
      intro k hk hlt
      by_cases hkc : k ∈ Chk N'
      · exact Finset.piecewise_eq_of_mem _ _ _ hkc
      · rw [Finset.piecewise_eq_of_notMem _ _ _ hkc]
        refine hf k (Finset.mem_sdiff.mpr ⟨hk, hkc⟩) ?_
        rw [mem_Chk] at hkc
        rw [mem_Lane] at hk
        omega
    · iexact Hs
  isplitl [Hb]; · iexact Hb
  iexists _; isplitr
  swap; · iexact HO
  ipureintro
  intro p hp
  rcases Finset.mem_insert.mp hp with hp | hp
  · exact .inr (hp ▸ rfl)
  · exact hW' p hp

end Step

end Cert.Proof.Plf

end
-- ==== Proof.Compute.lean ====
/-
  The kernel's inner loop: the result at a chunk of `t`, sixteen elements a trip. A trip loads sixteen elements, computes
  their segments, reads the two tables at them, and stores the sixteen results.
-/
module

public import proofs.«01_k».proof.Proof.Steps

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (c : Fin τ.nSC) (s : Fin τ.nSub)

/-- The tables in a subcore's memory. -/
abbrev taV : Memref sig .scVector .vmem S32 .f32 := Memref.whole cc0_scratch0
abbrev tbV : Memref sig .scVector .vmem S32 .f32 := Memref.whole cc0_scratch1

/-- The two tables, fetched. -/
def Tables (A B : FVec F S32 .f32) : sProp 𝕄 :=
  iprop(((V d c s).loc cc0_scratch0 ↦{fullShare} A) ∗ ((V d c s).loc cc0_scratch1 ↦{fullShare} B))

/-- The first `n` elements of `m` are those of chunk `N` of `o`. -/
def Upto (m : Memref sig .scVector .vmem S4096 .f32) (o : FVec F S16777216 .f32) (N n : ℕ) : sProp 𝕄 :=
  iprop(∃ f, ⌜∀ (j : S4096.Idx) (k : S16777216.Idx), (j 0).val < n → (k 0).val = 4096 * N + (j 0).val → m.view.read (Elt F) f j = o k⌝
    ∗ m.view.loc (V d c s) ↦[m.view.set]{fullShare} f)

omit [FloatOps F] in
theorem upto_zero {m : Memref sig .scVector .vmem S4096 .f32} {o : FVec F S16777216 .f32} {N : ℕ} :
    Any d c s m ⊢ Upto d c s m o N 0 := by
  unfold Any Upto
  iintro ⟨%f, H⟩
  iexists f
  isplitr
  · ipureintro; intro j k hj; omega
  · iexact H

omit [FloatOps F] in
theorem at_of_upto {m : Memref sig .scVector .vmem S4096 .f32} {o : FVec F S16777216 .f32} {N : ℕ} :
    Upto d c s m o N 4096 ⊢ At d c s m o N := by
  unfold At Upto
  iintro ⟨%f, %hf, H⟩
  iexists f
  isplitr
  · ipureintro; exact fun j k hk => hf j k (j 0).isLt hk
  · iexact H

section Row

variable {tb ob : Memref sig .scVector .vmem S4096 .f32}
variable (A B : FVec F S32 .f32) (t : FVec F S16777216 .f32) (N : ℕ)

/-- One trip: elements `16 i … 16 i + 15`. -/
theorem row_wp {i : ℕ} {offL offS : Fin 1 → ℕ} {hL : ∀ a, offL a + S16.size a ≤ S4096.size a} {hS : ∀ a, offS a + S16.size a ≤ S4096.size a}
    (eL : offL = ![16 * i]) (eS : offS = ![16 * i]) {l₁ l₂ l₃ l₄ s₁ s₂}
    {chk : IVec S16 32 → Prop} {dec : ∀ v, Decidable (chk v)}
    {i₁ : ∀ v, chk v → ∀ a x, ((![v] : Fin 1 → IVec S16 32) a x).toNat < S32.size a}
    {i₂ : ∀ v, chk v → ∀ a x, ((![v] : Fin 1 → IVec S16 32) a x).toNat < S32.size a}
    {p₁ : Vec F S16 .f32 → IVec S16 32} {p₂ : Vec F S16 .f32 → Vec F S16 .f32 → Vec F S16 .f32 → FVec F S16 .f32}
    (h₁ : ∀ v x, p₁ v x = seg (v x))
    (h₂ : ∀ v q r x, p₂ v q r x = FloatOps.addf (r x) (FloatOps.mulf (q x) (v x)))
    (hc : ∀ v : IVec S16 32, (∀ a x, ((![v] : Fin 1 → IVec S16 32) a x).toNat < S32.size a) → chk v) :
    iprop(At d c s tb t N ∗ Tables d c s A B ∗ Upto d c s ob (outV A B t) N (16 * i))
      ⊢ wp frame (wpE (defs₀ (F := F)) 𝒱₀ (V d c s) none) Set.univ
          (do
            let v : Vec F S16 .f32 ← Prog.lift (.load tb (Rect.unit (s := S4096) offL S16.size hL).toLoadRect l₁)
            have k0_hw : chk (p₁ v) := (← Prog.lift (TpuEff.assume (chk (p₁ v)) (dec (p₁ v)))).down
            let q : Vec F S16 .f32 ← SparseCore.vectorLoadIdx tbV ![p₁ v] (i₁ (p₁ v) k0_hw) l₂
            let r : Vec F S16 .f32 ← SparseCore.vectorLoadIdx taV ![p₁ v] (i₂ (p₁ v) k0_hw) l₃
            let _x : Vec F S16 .f32 ← Prog.lift (.load ob (Rect.unit (s := S4096) offS S16.size hS).toLoadRect l₄)
            Prog.lift (.store ob (Rect.unit (s := S4096) offS S16.size hS) (p₂ v q r) Finset.univ s₁ s₂)
            pure ⟨⟩ : Prog (TpuEff nD τ sig (Elt F) Λ₀ (.scVector c s)) Unit)
          fun _ => iprop(At d c s tb t N ∗ Tables d c s A B ∗ Upto d c s ob (outV A B t) N (16 * (i + 1))) := by
  unfold At Tables Upto
  iintro ⟨⟨%f, %hf, Ht⟩, ⟨Ha, Hb⟩, %g, %hg, Ho⟩
  iapply (wp_load 𝒱₀ (V d c s) none Set.univ (m := tb) (S := tb.view.set) (View.setOn_subset_set _ _)) $$ Ht
  iintro Ht
  rw [View.readAt_rect]
  have hv : ∀ x (k : S16777216.Idx), (k 0).val = 4096 * N + 16 * i + (x 0).val
      → (tb.view.slice (Rect.unit (s := S4096) offL S16.size hL)).read (Elt F) f x = t k := by
    intro x k hk
    refine hf ((Rect.unit (s := S4096) offL S16.size hL).emb x) k ?_
    subst eL
    rw [hk]
    show _ = 4096 * N + (16 * i + 1 * (x 0).val)
    omega
  generalize (tb.view.slice (Rect.unit (s := S4096) offL S16.size hL)).read (Elt F) f = v at hv ⊢
  have hlt : ∀ a x, ((![p₁ v] : Fin 1 → IVec S16 32) a x).toNat < S32.size a := by
    intro a x
    fin_cases a
    show (p₁ v x).toNat < 32
    rw [h₁]; exact seg_lt _
  have hix : ∀ x, idxAt ![p₁ v] hlt x = segIx (v x) := by
    intro x
    funext a
    fin_cases a
    exact Fin.ext (show (p₁ v x).toNat = (seg (v x)).toNat by rw [h₁])
  iapply (wp_assume 𝒱₀ (V d c s) none Set.univ (hc _ hlt))
  iapply (SparseCore.wp_vectorLoadIdx 𝒱₀ (V d c s) none Set.univ (base := tbV) (hl := l₂) (S := Finset.univ) (Finset.subset_univ _)) $$ Hb
  iintro Hb
  iapply (SparseCore.wp_vectorLoadIdx 𝒱₀ (V d c s) none Set.univ (base := taV) (hl := l₃) (S := Finset.univ) (Finset.subset_univ _)) $$ Ha
  iintro Ha
  iapply (wp_load 𝒱₀ (V d c s) none Set.univ (m := ob) (S := ob.view.set) (View.setOn_subset_set _ _)) $$ Ho
  iintro Ho
  iapply (wp_store 𝒱₀ (V d c s) none Set.univ (m := ob) (r := Rect.unit (s := S4096) offS S16.size hS) (S := ob.view.set) ((View.setOn_subset_set _ _).trans (View.set_slice_subset _ _))) $$ Ho
  iintro Ho
  dsimp only [Prog.bind, Prog.pure_eq_ret]
  sl_step
  isplitl [Ht]
  · iexists f
    isplitr
    · ipureintro; exact hf
    · iexact Ht
  isplitl [Ha Hb]
  · isplitl [Ha]
    · iexact Ha
    · iexact Hb
  iexists _
  isplitr
  swap; · iexact Ho
  ipureintro
  intro j k hj hk
  by_cases hj' : (j 0).val < 16 * i
  · refine (View.read_slice_write_of_not_mem (v := ob.view) (Rect.unit (s := S4096) offS S16.size hS) g _ Finset.univ ?_).trans (hg j k hj' hk)
    intro hm
    obtain ⟨x, -, rfl⟩ := Finset.mem_map.mp hm
    subst eS
    have : ((Rect.unit (s := S4096) ![16 * i] S16.size hS).emb x 0).val = 16 * i + 1 * (x 0).val := rfl
    omega
  · let x : (Rect.unit (s := S4096) offS S16.size hS).shape.Idx := fun a => ⟨(j 0).val - 16 * i, by fin_cases a; show _ < 16; omega⟩
    have hx : (Rect.unit (s := S4096) offS S16.size hS).emb x = j := by
      subst eS
      funext a
      fin_cases a
      refine Fin.ext ?_
      show 16 * i + 1 * ((j 0).val - 16 * i) = (j 0).val
      omega
    rw [← hx]
    refine (View.read_slice_write_emb (v := ob.view) (Rect.unit (s := S4096) offS S16.size hS) g _ (Finset.mem_univ x)).trans ?_
    rw [h₂]
    have hA : View.read (Elt F) (taV.access (Rect.whole S32)) A = A := Memref.read_access_whole (Elt F) cc0_scratch0 A
    have hB : View.read (Elt F) (tbV.access (Rect.whole S32)) B = B := Memref.read_access_whole (Elt F) cc0_scratch1 B
    rw [hA, hB]
    show FloatOps.addf (A (idxAt ![p₁ v] hlt x)) (FloatOps.mulf (B (idxAt ![p₁ v] hlt x)) (v x)) = outV A B t k
    rw [hix, hv x k (by show _ = 4096 * N + 16 * i + ((j 0).val - 16 * i); omega)]
    rfl

/-- The whole loop: from any contents of `ob` to the chunk's results. -/
theorem loop_wp {α : Type} {Q : α → sProp (MT nD τ sig (HIx 1) (Elt F) ℕ UU ℕ)} {L : Scf.Loop 32} {hok : L.OK} (hT : L.trips = 256)
    {body : Fin L.trips → Unit → Prog (TpuEff nD τ sig (Elt F) Λ₀ (.scVector c s)) Unit}
    {k : Unit → Prog (TpuEff nD τ sig (Elt F) Λ₀ (.scVector c s)) α}
    (hbody : ∀ i : Fin L.trips, iprop(At d c s tb t N ∗ Tables d c s A B ∗ Upto d c s ob (outV A B t) N (16 * i.val))
      ⊢ wp frame (wpE (defs₀ (F := F)) 𝒱₀ (V d c s) none) Set.univ (body i ())
          fun _ => iprop(At d c s tb t N ∗ Tables d c s A B ∗ Upto d c s ob (outV A B t) N (16 * (i.val + 1)))) :
    iprop(At d c s tb t N ∗ Tables d c s A B ∗ Any d c s ob)
      ⊢ iprop(((At d c s tb t N ∗ Tables d c s A B ∗ At d c s ob (outV A B t) N)
            -∗ wp frame (wpE (defs₀ (F := F)) 𝒱₀ (V d c s) none) Set.univ (k ()) Q)
          -∗ wp frame (wpE (defs₀ (F := F)) 𝒱₀ (V d c s) none) Set.univ (Scf.Loop.for L hok () body >>= k) Q) := by
  iintro ⟨Ht, HT, Ho⟩ Hk
  iapply (Scf.wp_for_bind frame (wpE (defs₀ (F := F)) 𝒱₀ (V d c s) none) Set.univ L.lb L.ub L.st hok () body
    (fun n _ => iprop(At d c s tb t N ∗ Tables d c s A B ∗ Upto d c s ob (outV A B t) N (16 * n)))
    (fun i _ => hbody i)) $$ [Ht HT Ho]
  · isplitl [Ht]; · iexact Ht
    isplitl [HT]; · iexact HT
    iapply (upto_zero d c s (N := N) (o := outV A B t)) $$ Ho
  iintro %acc ⟨Ht, HT, Ho⟩
  iapply Hk
  isplitl [Ht]; · iexact Ht
  isplitl [HT]; · iexact HT
  iapply (at_of_upto d c s (N := N) (o := outV A B t))
  iapply (Entails.of_eq (show (Upto d c s ob (outV A B t) N (16 * L.trips) : sProp (MT nD τ sig (HIx 1) (Elt F) ℕ UU ℕ)) = Upto d c s ob (outV A B t) N 4096
    by rw [hT]))
  iexact Ho

end Row

end Cert.Proof.Plf

end
-- ==== Proof.Lane.lean ====
/-
  One buffer pair of a vector subcore through one trip of the outer loop, with the conditions on the trip's number: at the
  first trip no result is on its way out yet, and the last trip fetches no further chunk.
-/
module

public import proofs.«01_k».proof.Proof.Compute

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (c : Fin τ.nSC) (s : Fin τ.nSub)
variable (A B : FVec F S32 .f32) (t : Buf (Elt F) (tLoc d))
variable (O : CellTallies nD τ sig (HIx 1)) (W : Waits sig (HIx 1))

/-- What all eight lanes share: the evidence for waits, the tables, the record of waits. -/
def Ctx : sProp 𝕄 :=
  iprop(levAts (K (F := F)).L (K (F := F)).lev ∗ Tables d c s A B ∗ Ow d c s O W)

/-- The way in before trip `g`: chunk `g` of the lane is coming, or nothing is left. -/
def InAt (w b g : ℕ) (tb : Memref sig .scVector .vmem S4096 .f32) (si : DmaSem sig) : sProp 𝕄 :=
  if g < 16 then InFly d c s t w b (128 * w + 8 * g + b) tb si else iprop(InIdle d c s t w b si ∗ Any d c s tb)

/-- The way out before trip `g`: nothing yet, or the chunk before is leaving. -/
def OutAt (w b g : ℕ) (ob : Memref sig .scVector .vmem S4096 .f32) (so : DmaSem sig) : sProp 𝕄 :=
  if g = 0 then iprop(OutIdle d c s (outV A B t) w b (128 * w + b) so ∗ Any d c s ob)
  else OutFly d c s (outV A B t) w b (128 * w + 8 * (g - 1) + b) ob so

/-- A lane before trip `g`. -/
def Lane0 (w b g : ℕ) (tb ob : Memref sig .scVector .vmem S4096 .f32) (si so : DmaSem sig) : sProp 𝕄 :=
  iprop(InAt d c s t w b g tb si ∗ OutAt d c s A B t w b g ob so)

/-- Its chunk has come. -/
def Lane1 (w b g : ℕ) (tb ob : Memref sig .scVector .vmem S4096 .f32) (si so : DmaSem sig) : sProp 𝕄 :=
  iprop((InIdle d c s t w b si ∗ At d c s tb t (128 * w + 8 * g + b)) ∗ OutAt d c s A B t w b g ob so)

/-- Its result buffer is free. -/
def Lane2 (w b g : ℕ) (tb ob : Memref sig .scVector .vmem S4096 .f32) (si so : DmaSem sig) : sProp 𝕄 :=
  iprop((InIdle d c s t w b si ∗ At d c s tb t (128 * w + 8 * g + b))
    ∗ OutIdle d c s (outV A B t) w b (128 * w + 8 * g + b) so ∗ Any d c s ob)

/-- Its results are computed. -/
def Lane3 (w b g : ℕ) (tb ob : Memref sig .scVector .vmem S4096 .f32) (si so : DmaSem sig) : sProp 𝕄 :=
  iprop((InIdle d c s t w b si ∗ At d c s tb t (128 * w + 8 * g + b))
    ∗ OutIdle d c s (outV A B t) w b (128 * w + 8 * g + b) so ∗ At d c s ob (outV A B t) (128 * w + 8 * g + b))

/-- Its results are leaving. -/
def Lane4 (w b g : ℕ) (tb ob : Memref sig .scVector .vmem S4096 .f32) (si so : DmaSem sig) : sProp 𝕄 :=
  iprop((InIdle d c s t w b si ∗ At d c s tb t (128 * w + 8 * g + b))
    ∗ OutFly d c s (outV A B t) w b (128 * w + 8 * g + b) ob so)

section Step

variable {α : Type} {Q : α → sProp (MT nD τ sig (HIx 1) (Elt F) ℕ UU ℕ)}
variable {tb ob : Memref sig .scVector .vmem S4096 .f32} {si so : DmaSem sig}
variable {w b g : ℕ}
variable {k : Unit → Prog (TpuEff nD τ sig (Elt F) Λ₀ (.scVector c s)) α}

theorem lane_wait_in {sp : Space} {s' : Shape} {e' : EltTy} {src : Memref sig .scVector sp s' e'} {h₁ h₂}
    (hO : ∀ x, O x none = 0) (hb : b < 8) (hg : g < 16) :
    iprop(Ctx d c s A B O W ∗ Lane0 d c s A B t w b g tb ob si so)
      ⊢ iprop(((Ctx d c s A B O W ∗ Lane1 d c s A B t w b g tb ob si so)
            -∗ wp frame (wpE (defs₀ (F := F)) 𝒱₀ (V d c s) none) Set.univ (k ⟨⟩) Q)
          -∗ wp frame (wpE (defs₀ (F := F)) 𝒱₀ (V d c s) none) Set.univ
              (Prog.lift (.waitDma2 si src tb h₁ h₂) >>= k) Q) := by
  unfold Ctx Lane0 Lane1 InAt
  rw [if_pos hg]
  iintro ⟨⟨#Hlv, HT, HO⟩, Hi, Ho⟩ Hk
  iapply (wait_in d c s t hO hb hg rfl) $$ [Hi HO]
  · isplitr; · iexact Hlv
    isplitl [Hi] <;> iassumption
  iintro ⟨Hi, Ha, HO⟩
  iapply Hk
  isplitl [HT HO]
  · isplitr; · iexact Hlv
    isplitl [HT] <;> iassumption
  isplitr [Ho]
  · isplitl [Hi] <;> iassumption
  · iexact Ho

theorem lane_wait_out {sp : Space} {s' : Shape} {e' : EltTy} {src : Memref sig .scVector sp s' e'} {cond : BitVec 1}
    {kk : Prog (TpuEff nD τ sig (Elt F) Λ₀ (.scVector c s)) α}
    {dec : Decidable (cond = 1#1)} {off : Fin 1 → ℕ}
    {h : cond = 1#1 → ∀ a, off a + S4096.size a ≤ S16777216.size a} {h₁ : cond = 1#1 → src.view.WordExact}
    {h₂ : ∀ hh : cond = 1#1, ((oV).slice (chunkR off (h hh)) (fun _ => rfl)).view.WordExact}
    (hO : ∀ x, O x none = 0) (hb : b < 8) (hg : g < 16) (hc : cond = 1#1 ↔ 0 < g) :
    iprop(Ctx d c s A B O W ∗ Lane1 d c s A B t w b g tb ob si so)
      ⊢ iprop(((Ctx d c s A B O W ∗ Lane2 d c s A B t w b g tb ob si so)
            -∗ wp frame (wpE (defs₀ (F := F)) 𝒱₀ (V d c s) none) Set.univ kk Q)
          -∗ wp frame (wpE (defs₀ (F := F)) 𝒱₀ (V d c s) none) Set.univ
              (if hh : cond = 1#1 then
                 Prog.lift (.waitDma2 so src ((oV).slice (chunkR off (h hh)) (fun _ => rfl)) (h₁ hh) (h₂ hh)) >>= fun _ => kk
               else kk) Q) := by
  unfold Ctx Lane1 Lane2 OutAt
  by_cases hh : cond = 1#1
  · rw [dif_pos hh, if_neg (by have := hc.mp hh; omega)]
    iintro ⟨⟨#Hlv, HT, HO⟩, Hi, Ho⟩ Hk
    iapply (wait_out d c s (outV A B t) hO (g := g - 1) (N' := 128 * w + 8 * (g - 1) + b) (N := 128 * w + 8 * g + b) hb (by omega) rfl (by have := hc.mp hh; omega)) $$ [Ho HO]
    · isplitr; · iexact Hlv
      isplitl [Ho] <;> iassumption
    iintro ⟨Ho, Ha, HO⟩
    iapply Hk
    isplitl [HT HO]
    · isplitr; · iexact Hlv
      isplitl [HT] <;> iassumption
    isplitl [Hi]; · iexact Hi
    isplitl [Ho] <;> iassumption
  · have hg0 : g = 0 := by by_contra hn; exact hh (hc.mpr (by omega))
    subst hg0
    rw [dif_neg hh, if_pos rfl]
    iintro ⟨HC, Hi, Ho⟩ Hk
    iapply Hk
    isplitl [HC]; · iexact HC
    isplitl [Hi] <;> iassumption

theorem lane_loop {L : Scf.Loop 32} {hok : L.OK} (hT : L.trips = 256)
    {body : Fin L.trips → Unit → Prog (TpuEff nD τ sig (Elt F) Λ₀ (.scVector c s)) Unit}
    (hbody : ∀ i : Fin L.trips, iprop(At d c s tb t (128 * w + 8 * g + b) ∗ Tables d c s A B
          ∗ Upto d c s ob (outV A B t) (128 * w + 8 * g + b) (16 * i.val))
      ⊢ wp frame (wpE (defs₀ (F := F)) 𝒱₀ (V d c s) none) Set.univ (body i ())
          fun _ => iprop(At d c s tb t (128 * w + 8 * g + b) ∗ Tables d c s A B
            ∗ Upto d c s ob (outV A B t) (128 * w + 8 * g + b) (16 * (i.val + 1)))) :
    iprop(Ctx d c s A B O W ∗ Lane2 d c s A B t w b g tb ob si so)
      ⊢ iprop(((Ctx d c s A B O W ∗ Lane3 d c s A B t w b g tb ob si so)
            -∗ wp frame (wpE (defs₀ (F := F)) 𝒱₀ (V d c s) none) Set.univ (k ()) Q)
          -∗ wp frame (wpE (defs₀ (F := F)) 𝒱₀ (V d c s) none) Set.univ (Scf.Loop.for L hok () body >>= k) Q) := by
  unfold Ctx Lane2 Lane3
  iintro ⟨⟨Hlv, HT, HO⟩, ⟨Hi, Ht⟩, Ho, Ha⟩ Hk
  iapply (loop_wp d c s A B t _ hT hbody) $$ [Ht HT Ha]
  · isplitl [Ht]; · iexact Ht
    isplitl [HT] <;> iassumption
  iintro ⟨Ht, HT, Ha⟩
  iapply Hk
  isplitl [Hlv HT HO]
  · isplitl [Hlv]; · iexact Hlv
    isplitl [HT] <;> iassumption
  isplitl [Hi Ht]
  · isplitl [Hi] <;> iassumption
  isplitl [Ho] <;> iassumption

theorem lane_start_out {off : Fin 1 → ℕ} {h} {h₁ h₂ h₃} (hb : b < 8) (hg : g < 16)
    (hoff : off = ![4096 * (128 * w + 8 * g + b)]) :
    iprop(Ctx d c s A B O W ∗ Lane3 d c s A B t w b g tb ob si so)
      ⊢ iprop(((Ctx d c s A B O W ∗ Lane4 d c s A B t w b g tb ob si so)
            -∗ wp frame (wpE (defs₀ (F := F)) 𝒱₀ (V d c s) none) Set.univ (k ⟨⟩) Q)
          -∗ wp frame (wpE (defs₀ (F := F)) 𝒱₀ (V d c s) none) Set.univ
              (Prog.lift (.enqueueDma ob (.here ((oV).slice (chunkR off h) (fun _ => rfl))) (.dma so) h₁ h₂ h₃) >>= k) Q) := by
  unfold Lane3 Lane4
  iintro ⟨HC, Hi, Ho, Ha⟩ Hk
  iapply (start_out d c s (outV A B t) hb hg rfl hoff) $$ [Ho Ha]
  · isplitl [Ho] <;> iassumption
  iintro Ho
  iapply Hk
  isplitl [HC]; · iexact HC
  isplitl [Hi] <;> iassumption

theorem lane_start_in {cond : BitVec 1}
    {kk : Prog (TpuEff nD τ sig (Elt F) Λ₀ (.scVector c s)) α}
    {dec : Decidable (cond = 1#1)} {off : Fin 1 → ℕ}
    {h : cond = 1#1 → ∀ a, off a + S4096.size a ≤ S16777216.size a}
    {h₁ : ∀ hh : cond = 1#1, ((tV).slice (chunkR off (h hh)) (fun _ => rfl)).view.WordExact}
    {h₂ : cond = 1#1 → tb.view.WordExact} {h₃ : cond = 1#1 → DmaTarget.Typed (p := Proc.scVector c s) (nD := nD) (τ := τ) Space.hbm (SemLoc.dma si) (.here tb)}
    (hb : b < 8) (hg : g < 16) (hc : cond = 1#1 ↔ g + 1 < 16)
    (hoff : off = ![4096 * (128 * w + 8 * (g + 1) + b)]) :
    iprop(Ctx d c s A B O W ∗ Lane4 d c s A B t w b g tb ob si so)
      ⊢ iprop(((Ctx d c s A B O W ∗ Lane0 d c s A B t w b (g + 1) tb ob si so)
            -∗ wp frame (wpE (defs₀ (F := F)) 𝒱₀ (V d c s) none) Set.univ kk Q)
          -∗ wp frame (wpE (defs₀ (F := F)) 𝒱₀ (V d c s) none) Set.univ
              (if hh : cond = 1#1 then
                 Prog.lift (.enqueueDma ((tV).slice (chunkR off (h hh)) (fun _ => rfl)) (.here tb) (.dma si) (h₁ hh) (h₂ hh) (h₃ hh))
                   >>= fun _ => kk
               else kk) Q) := by
  unfold Lane4 Lane0 OutAt InAt
  rw [if_neg (Nat.succ_ne_zero g), Nat.add_sub_cancel]
  iintro ⟨HC, ⟨Hi, Ha⟩, Ho⟩ Hk
  ihave Ha := (any_of_at d c s) $$ Ha
  by_cases hh : cond = 1#1
  · rw [dif_pos hh, if_pos (hc.mp hh)]
    iapply (start_in d c s t hb (hc.mp hh) rfl hoff) $$ [Hi Ha]
    · isplitl [Hi] <;> iassumption
    iintro Hi
    iapply Hk
    isplitl [HC]; · iexact HC
    isplitl [Hi] <;> iassumption
  · rw [dif_neg hh, if_neg (fun h => hh (hc.mpr h))]
    iapply Hk
    isplitl [HC]; · iexact HC
    isplitr [Ho]
    · isplitl [Hi] <;> iassumption
    · iexact Ho

/-- The way in at its start: the first chunk is fetched. -/
theorem lane_first {off : Fin 1 → ℕ} {h} {h₁ h₂ h₃} (hb : b < 8) (hoff : off = ![4096 * (128 * w + b)]) :
    iprop(InIdle d c s t w b si ∗ Any d c s tb)
      ⊢ iprop((InAt d c s t w b 0 tb si -∗ wp frame (wpE (defs₀ (F := F)) 𝒱₀ (V d c s) none) Set.univ (k ⟨⟩) Q)
          -∗ wp frame (wpE (defs₀ (F := F)) 𝒱₀ (V d c s) none) Set.univ
              (Prog.lift (.enqueueDma ((tV).slice (chunkR off h) (fun _ => rfl)) (.here tb) (.dma si) h₁ h₂ h₃) >>= k) Q) := by
  unfold InAt
  rw [if_pos (by decide)]
  exact start_in d c s t hb (g := 0) (by decide) rfl hoff

/-- The way out at its end: the last chunk has left. -/
theorem lane_last {sp : Space} {s' : Shape} {e' : EltTy} {src : Memref sig .scVector sp s' e'} {off : Fin 1 → ℕ} {h} {h₁ h₂}
    (hO : ∀ x, O x none = 0) (hb : b < 8) :
    iprop(Ctx d c s A B O W ∗ Lane0 d c s A B t w b 16 tb ob si so)
      ⊢ iprop(((Ctx d c s A B O W ∗ (InIdle d c s t w b si ∗ Any d c s tb)
              ∗ OutIdle d c s (outV A B t) w b (128 * w + 128 + b) so ∗ Any d c s ob)
            -∗ wp frame (wpE (defs₀ (F := F)) 𝒱₀ (V d c s) none) Set.univ (k ⟨⟩) Q)
          -∗ wp frame (wpE (defs₀ (F := F)) 𝒱₀ (V d c s) none) Set.univ
              (Prog.lift (.waitDma2 so src ((oV).slice (chunkR off h) (fun _ => rfl)) h₁ h₂) >>= k) Q) := by
  unfold Ctx Lane0 OutAt InAt
  rw [if_neg (by decide), if_neg (by decide)]
  iintro ⟨⟨#Hlv, HT, HO⟩, Hi, Ho⟩ Hk
  iapply (wait_out d c s (outV A B t) hO (g := 15) (N' := 128 * w + 8 * 15 + b) (N := 128 * w + 128 + b) hb (by decide) rfl (by omega)) $$ [Ho HO]
  · isplitr; · iexact Hlv
    isplitl [Ho] <;> iassumption
  iintro ⟨Ho, Ha, HO⟩
  iapply Hk
  isplitl [HT HO]
  · isplitr; · iexact Hlv
    isplitl [HT] <;> iassumption
  isplitl [Hi]; · iexact Hi
  isplitl [Ho] <;> iassumption

end Step

end Cert.Proof.Plf

end
-- ==== Proof.Rows.lean ====
/-
  The kernel's eight inner loops on its own buffers, and the facts of its offsets and conditions: where each chunk starts,
  which trips wait for a result to leave, which trips fetch a further chunk.
-/
module

public import proofs.«01_k».proof.Proof.Lane
public import proofs.«01_k».proof.Proof.Gen.KernelIdeal.Skeleton

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The subcore at grid coordinates `L`, and the number of its piece. -/
abbrev cV (L : grid0.Coords) : Fin τ.nSC := (L 0).castLE hcore0
abbrev jV (L : grid0.Coords) : Fin τ.nSub := (L 1).castLE hsub0
abbrev pc (L : grid0.Coords) : ℕ := 2 * (L 1).val + (L 0).val

/-! ## The inner loops' bodies on the kernel's own buffers -/

abbrev body2 (L : grid0.Coords) :=
  k0_t2_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body3 (L : grid0.Coords) :=
  k0_t3_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body4 (L : grid0.Coords) :=
  k0_t4_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body5 (L : grid0.Coords) :=
  k0_t5_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body6 (L : grid0.Coords) :=
  k0_t6_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body7 (L : grid0.Coords) :=
  k0_t7_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body8 (L : grid0.Coords) :=
  k0_t8_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

abbrev body9 (L : grid0.Coords) :=
  k0_t9_body (F := F) L
    tV (Memref.isWhole_whole _) aV (Memref.isWhole_whole _) bV (Memref.isWhole_whole _) oV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _) (Memref.whole cc0_scratch15) (Memref.isWhole_whole _)
    (Memref.whole cc0_scratch16) (Memref.isWhole_whole _) (Memref.whole cc0_scratch17) (Memref.isWhole_whole _)
    cc0_scratch18 cc0_scratch19 cc0_scratch20 cc0_scratch21 cc0_scratch22 cc0_scratch23 cc0_scratch24 cc0_scratch25
    cc0_scratch26 cc0_scratch27 cc0_scratch28 cc0_scratch29 cc0_scratch30 cc0_scratch31 cc0_scratch32 cc0_scratch33
    cc0_scoped0 cc0_scoped1

variable (d : Dev nD) (A B : FVec F S32 .f32) (t : Buf (Elt F) (tLoc d)) (L : grid0.Coords) (N : ℕ)

theorem row2 {v2 a₁ a₂ : BitVec 32} {g : Fin k0_t1_loop.trips} (i : Fin k0_t2_loop.trips) :
    iprop(At d (cV L) (jV L) (Memref.whole cc0_scratch2) t N ∗ Tables d (cV L) (jV L) A B ∗ Upto d (cV L) (jV L) (Memref.whole cc0_scratch10) (outV A B t) N (16 * i.val))
      ⊢ wp frame (wpE (defs₀ (F := F)) 𝒱₀ (V d (cV L) (jV L)) none) Set.univ (body2 (F := F) L v2 31#32 a₁ a₂ g i ())
          fun _ => iprop(At d (cV L) (jV L) (Memref.whole cc0_scratch2) t N ∗ Tables d (cV L) (jV L) A B
            ∗ Upto d (cV L) (jV L) (Memref.whole cc0_scratch10) (outV A B t) N (16 * (i.val + 1))) := by
  unfold body2 k0_t2_body
  exact row_wp d (cV L) (jV L) A B t N (k0_off4_eq i) (k0_off5_eq i) (dec := k0_chk1.dec)
    (p₁ := k0_pay1 31#32) (p₂ := k0_pay2) (fun _ _ => rfl) (fun _ _ _ _ => rfl) (fun _ h => ⟨h, h⟩)

theorem row3 {v2 a₁ a₂ : BitVec 32} {g : Fin k0_t1_loop.trips} (i : Fin k0_t3_loop.trips) :
    iprop(At d (cV L) (jV L) (Memref.whole cc0_scratch3) t N ∗ Tables d (cV L) (jV L) A B ∗ Upto d (cV L) (jV L) (Memref.whole cc0_scratch11) (outV A B t) N (16 * i.val))
      ⊢ wp frame (wpE (defs₀ (F := F)) 𝒱₀ (V d (cV L) (jV L)) none) Set.univ (body3 (F := F) L v2 31#32 a₁ a₂ g i ())
          fun _ => iprop(At d (cV L) (jV L) (Memref.whole cc0_scratch3) t N ∗ Tables d (cV L) (jV L) A B
            ∗ Upto d (cV L) (jV L) (Memref.whole cc0_scratch11) (outV A B t) N (16 * (i.val + 1))) := by
  unfold body3 k0_t3_body
  exact row_wp d (cV L) (jV L) A B t N (k0_off8_eq i) (k0_off9_eq i) (dec := k0_chk2.dec)
    (p₁ := k0_pay3 31#32) (p₂ := k0_pay4) (fun _ _ => rfl) (fun _ _ _ _ => rfl) (fun _ h => ⟨h, h⟩)

theorem row4 {v2 a₁ a₂ a₃ a₄ : BitVec 32} {g : Fin k0_t1_loop.trips} (i : Fin k0_t4_loop.trips) :
    iprop(At d (cV L) (jV L) (Memref.whole cc0_scratch4) t N ∗ Tables d (cV L) (jV L) A B ∗ Upto d (cV L) (jV L) (Memref.whole cc0_scratch12) (outV A B t) N (16 * i.val))
      ⊢ wp frame (wpE (defs₀ (F := F)) 𝒱₀ (V d (cV L) (jV L)) none) Set.univ (body4 (F := F) L v2 31#32 g a₁ a₂ a₃ a₄ i ())
          fun _ => iprop(At d (cV L) (jV L) (Memref.whole cc0_scratch4) t N ∗ Tables d (cV L) (jV L) A B
            ∗ Upto d (cV L) (jV L) (Memref.whole cc0_scratch12) (outV A B t) N (16 * (i.val + 1))) := by
  unfold body4 k0_t4_body
  exact row_wp d (cV L) (jV L) A B t N (k0_off12_eq i) (k0_off13_eq i) (dec := k0_chk3.dec)
    (p₁ := k0_pay5 31#32) (p₂ := k0_pay6) (fun _ _ => rfl) (fun _ _ _ _ => rfl) (fun _ h => ⟨h, h⟩)

theorem row5 {v2 a₁ a₂ a₃ a₄ : BitVec 32} {g : Fin k0_t1_loop.trips} (i : Fin k0_t5_loop.trips) :
    iprop(At d (cV L) (jV L) (Memref.whole cc0_scratch5) t N ∗ Tables d (cV L) (jV L) A B ∗ Upto d (cV L) (jV L) (Memref.whole cc0_scratch13) (outV A B t) N (16 * i.val))
      ⊢ wp frame (wpE (defs₀ (F := F)) 𝒱₀ (V d (cV L) (jV L)) none) Set.univ (body5 (F := F) L v2 31#32 g a₁ a₂ a₃ a₄ i ())
          fun _ => iprop(At d (cV L) (jV L) (Memref.whole cc0_scratch5) t N ∗ Tables d (cV L) (jV L) A B
            ∗ Upto d (cV L) (jV L) (Memref.whole cc0_scratch13) (outV A B t) N (16 * (i.val + 1))) := by
  unfold body5 k0_t5_body
  exact row_wp d (cV L) (jV L) A B t N (k0_off16_eq i) (k0_off17_eq i) (dec := k0_chk4.dec)
    (p₁ := k0_pay7 31#32) (p₂ := k0_pay8) (fun _ _ => rfl) (fun _ _ _ _ => rfl) (fun _ h => ⟨h, h⟩)

theorem row6 {v2 a₁ a₂ a₃ : BitVec 32} {g : Fin k0_t1_loop.trips} (i : Fin k0_t6_loop.trips) :
    iprop(At d (cV L) (jV L) (Memref.whole cc0_scratch6) t N ∗ Tables d (cV L) (jV L) A B ∗ Upto d (cV L) (jV L) (Memref.whole cc0_scratch14) (outV A B t) N (16 * i.val))
      ⊢ wp frame (wpE (defs₀ (F := F)) 𝒱₀ (V d (cV L) (jV L)) none) Set.univ (body6 (F := F) L v2 31#32 g a₁ a₂ a₃ i ())
          fun _ => iprop(At d (cV L) (jV L) (Memref.whole cc0_scratch6) t N ∗ Tables d (cV L) (jV L) A B
            ∗ Upto d (cV L) (jV L) (Memref.whole cc0_scratch14) (outV A B t) N (16 * (i.val + 1))) := by
  unfold body6 k0_t6_body
  exact row_wp d (cV L) (jV L) A B t N (k0_off20_eq i) (k0_off21_eq i) (dec := k0_chk5.dec)
    (p₁ := k0_pay9 31#32) (p₂ := k0_pay10) (fun _ _ => rfl) (fun _ _ _ _ => rfl) (fun _ h => ⟨h, h⟩)

theorem row7 {v2 a₁ a₂ a₃ : BitVec 32} {g : Fin k0_t1_loop.trips} (i : Fin k0_t7_loop.trips) :
    iprop(At d (cV L) (jV L) (Memref.whole cc0_scratch7) t N ∗ Tables d (cV L) (jV L) A B ∗ Upto d (cV L) (jV L) (Memref.whole cc0_scratch15) (outV A B t) N (16 * i.val))
      ⊢ wp frame (wpE (defs₀ (F := F)) 𝒱₀ (V d (cV L) (jV L)) none) Set.univ (body7 (F := F) L v2 31#32 g a₁ a₂ a₃ i ())
          fun _ => iprop(At d (cV L) (jV L) (Memref.whole cc0_scratch7) t N ∗ Tables d (cV L) (jV L) A B
            ∗ Upto d (cV L) (jV L) (Memref.whole cc0_scratch15) (outV A B t) N (16 * (i.val + 1))) := by
  unfold body7 k0_t7_body
  exact row_wp d (cV L) (jV L) A B t N (k0_off24_eq i) (k0_off25_eq i) (dec := k0_chk6.dec)
    (p₁ := k0_pay11 31#32) (p₂ := k0_pay12) (fun _ _ => rfl) (fun _ _ _ _ => rfl) (fun _ h => ⟨h, h⟩)

theorem row8 {v2 a₁ a₂ a₃ : BitVec 32} {g : Fin k0_t1_loop.trips} (i : Fin k0_t8_loop.trips) :
    iprop(At d (cV L) (jV L) (Memref.whole cc0_scratch8) t N ∗ Tables d (cV L) (jV L) A B ∗ Upto d (cV L) (jV L) (Memref.whole cc0_scratch16) (outV A B t) N (16 * i.val))
      ⊢ wp frame (wpE (defs₀ (F := F)) 𝒱₀ (V d (cV L) (jV L)) none) Set.univ (body8 (F := F) L v2 31#32 g a₁ a₂ a₃ i ())
          fun _ => iprop(At d (cV L) (jV L) (Memref.whole cc0_scratch8) t N ∗ Tables d (cV L) (jV L) A B
            ∗ Upto d (cV L) (jV L) (Memref.whole cc0_scratch16) (outV A B t) N (16 * (i.val + 1))) := by
  unfold body8 k0_t8_body
  exact row_wp d (cV L) (jV L) A B t N (k0_off28_eq i) (k0_off29_eq i) (dec := k0_chk7.dec)
    (p₁ := k0_pay13 31#32) (p₂ := k0_pay14) (fun _ _ => rfl) (fun _ _ _ _ => rfl) (fun _ h => ⟨h, h⟩)

theorem row9 (i : Fin k0_t9_loop.trips) :
    iprop(At d (cV L) (jV L) (Memref.whole cc0_scratch9) t N ∗ Tables d (cV L) (jV L) A B ∗ Upto d (cV L) (jV L) (Memref.whole cc0_scratch17) (outV A B t) N (16 * i.val))
      ⊢ wp frame (wpE (defs₀ (F := F)) 𝒱₀ (V d (cV L) (jV L)) none) Set.univ (body9 (F := F) L i ())
          fun _ => iprop(At d (cV L) (jV L) (Memref.whole cc0_scratch9) t N ∗ Tables d (cV L) (jV L) A B
            ∗ Upto d (cV L) (jV L) (Memref.whole cc0_scratch17) (outV A B t) N (16 * (i.val + 1))) := by
  unfold body9 k0_t9_body
  exact row_wp d (cV L) (jV L) A B t N (k0_off32_eq i) (k0_off33_eq i) (dec := k0_chk8.dec)
    (p₁ := k0_pay15) (p₂ := k0_pay16) (fun _ _ => rfl) (fun _ _ _ _ => rfl) (fun _ h => ⟨h, h⟩)

/-! ## Conditions and offsets -/

theorem cond1_iff : ∀ g : Fin k0_t1_loop.trips, k0_cond1 g = 1#1 ↔ 0 < g.val := by decide +kernel
theorem cond2_iff : ∀ g : Fin k0_t1_loop.trips, k0_cond2 g = 1#1 ↔ g.val + 1 < 16 := by decide +kernel
theorem cond3_iff : ∀ g : Fin k0_t1_loop.trips, k0_cond3 g = 1#1 ↔ 0 < g.val := by decide +kernel
theorem cond4_iff : ∀ g : Fin k0_t1_loop.trips, k0_cond4 g = 1#1 ↔ g.val + 1 < 16 := by decide +kernel
theorem cond5_iff : ∀ g : Fin k0_t1_loop.trips, k0_cond5 g = 1#1 ↔ 0 < g.val := by decide +kernel
theorem cond6_iff : ∀ g : Fin k0_t1_loop.trips, k0_cond6 g = 1#1 ↔ g.val + 1 < 16 := by decide +kernel
theorem cond7_iff : ∀ g : Fin k0_t1_loop.trips, k0_cond7 g = 1#1 ↔ 0 < g.val := by decide +kernel
theorem cond8_iff : ∀ g : Fin k0_t1_loop.trips, k0_cond8 g = 1#1 ↔ g.val + 1 < 16 := by decide +kernel
theorem cond9_iff : ∀ g : Fin k0_t1_loop.trips, k0_cond9 g = 1#1 ↔ 0 < g.val := by decide +kernel
theorem cond10_iff : ∀ g : Fin k0_t1_loop.trips, k0_cond10 g = 1#1 ↔ g.val + 1 < 16 := by decide +kernel
theorem cond11_iff : ∀ g : Fin k0_t1_loop.trips, k0_cond11 g = 1#1 ↔ 0 < g.val := by decide +kernel
theorem cond12_iff : ∀ g : Fin k0_t1_loop.trips, k0_cond12 g = 1#1 ↔ g.val + 1 < 16 := by decide +kernel
theorem cond13_iff : ∀ g : Fin k0_t1_loop.trips, k0_cond13 g = 1#1 ↔ 0 < g.val := by decide +kernel
theorem cond14_iff : ∀ g : Fin k0_t1_loop.trips, k0_cond14 g = 1#1 ↔ g.val + 1 < 16 := by decide +kernel
theorem cond15_iff : ∀ g : Fin k0_t1_loop.trips, k0_cond15 g = 1#1 ↔ 0 < g.val := by decide +kernel
theorem cond16_iff : ∀ g : Fin k0_t1_loop.trips, k0_cond16 g = 1#1 ↔ g.val + 1 < 16 := by decide +kernel

omit [FloatOps F] in
/-- Where the first eight chunks of a piece start. -/
theorem off1_eq : ∀ (i : grid0.Coords) (r : Fin 8),
    k0_off1 i (BitVec.ofNat 32 (4096 * r.val)) = ![4096 * (128 * pc i + r.val)] := by
  have H : ∀ (a : Fin 2) (b : Fin 16) (r : Fin 8),
      (Scalar.addi (Scalar.muli (Scalar.addi (Scalar.muli (BitVec.ofNat 32 b.val) 2#32) (BitVec.ofNat 32 a.val)) 524288#32)
        (BitVec.ofNat 32 (4096 * r.val))).toNat = 4096 * (128 * (2 * b.val + a.val) + r.val) := by decide +kernel
  intro i r
  funext a
  fin_cases a
  exact H (i 0) (i 1) r

omit [FloatOps F] in
theorem chunk_eq (i : grid0.Coords) {g r : ℕ} :
    (![1048576 * (i 1).val + 524288 * (i 0).val + 32768 * g + 4096 * r] : Fin 1 → ℕ) = ![4096 * (128 * pc i + 8 * g + r)] :=
  congrArg (fun n => ![n]) (by unfold pc; ring)

omit [FloatOps F] in
theorem next_eq (i : grid0.Coords) {g r k : ℕ} (hk : k = 32768 + 4096 * r) :
    (![1048576 * (i 1).val + 524288 * (i 0).val + 32768 * g + k] : Fin 1 → ℕ) = ![4096 * (128 * pc i + 8 * (g + 1) + r)] :=
  congrArg (fun n => ![n]) (by subst hk; unfold pc; ring)

theorem trips_outer : k0_t1_loop.trips = 16 := by decide +kernel
theorem trips2 : k0_t2_loop.trips = 256 := by decide +kernel
theorem trips3 : k0_t3_loop.trips = 256 := by decide +kernel
theorem trips4 : k0_t4_loop.trips = 256 := by decide +kernel
theorem trips5 : k0_t5_loop.trips = 256 := by decide +kernel
theorem trips6 : k0_t6_loop.trips = 256 := by decide +kernel
theorem trips7 : k0_t7_loop.trips = 256 := by decide +kernel
theorem trips8 : k0_t8_loop.trips = 256 := by decide +kernel
theorem trips9 : k0_t9_loop.trips = 256 := by decide +kernel

end Cert.Proof.Plf

end
-- ==== Proof.Ring.lean ====
/-
  One trip of the kernel's outer loop, in the parts that the program names: each of the eight lanes advances by one chunk.
-/
module

public import proofs.«01_k».proof.Proof.Rows

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (A B : FVec F S32 .f32) (t : Buf (Elt F) (tLoc d)) (L : grid0.Coords)
variable (O : CellTallies nD τ sig (HIx 1)) (W : Waits sig (HIx 1))

set_option maxRecDepth 65536 in
set_option maxHeartbeats 1000000 in
theorem part1_wp (hO : ∀ x, O x none = 0) {v2 : BitVec 32} (g : Fin k0_t1_loop.trips) {Q : _ → sProp (MT nD τ sig (HIx 1) (Elt F) ℕ UU ℕ)} :
    iprop(Ctx d (cV L) (jV L) A B O W
        ∗ Lane0 d (cV L) (jV L) A B t (pc L) 0 g.val (Memref.whole cc0_scratch2) (Memref.whole cc0_scratch10) cc0_scratch18.sem cc0_scratch26.sem
        ∗ Lane0 d (cV L) (jV L) A B t (pc L) 1 g.val (Memref.whole cc0_scratch3) (Memref.whole cc0_scratch11) cc0_scratch19.sem cc0_scratch27.sem)
      ⊢ iprop((∀ r, (Ctx d (cV L) (jV L) A B O W
        ∗ Lane0 d (cV L) (jV L) A B t (pc L) 0 (g.val + 1) (Memref.whole cc0_scratch2) (Memref.whole cc0_scratch10) cc0_scratch18.sem cc0_scratch26.sem
        ∗ Lane4 d (cV L) (jV L) A B t (pc L) 1 g.val (Memref.whole cc0_scratch3) (Memref.whole cc0_scratch11) cc0_scratch19.sem cc0_scratch27.sem) -∗ Q r)
        -∗ wp frame (wpE (defs₀ (F := F)) 𝒱₀ (V d (cV L) (jV L)) none) Set.univ
          (k0_part1 (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1
            v2 31#32 0#32 1#32 g) Q) := by
  have hg : g.val < 16 := lt_of_lt_of_eq g.isLt trips_outer
  rw [k0_part1_eq_skeleton]
  unfold k0_part1_skel
  iintro ⟨HC, H0, H1⟩ Hk
  iapply (lane_wait_in d (cV L) (jV L) A B t O W hO (b := 0) (by decide) hg) $$ [HC H0]
  · isplitl [HC] <;> iassumption
  iintro ⟨HC, H0⟩
  iapply (lane_wait_out d (cV L) (jV L) A B t O W hO (b := 0) (by decide) hg (cond1_iff g)) $$ [HC H0]
  · isplitl [HC] <;> iassumption
  iintro ⟨HC, H0⟩
  iapply (lane_loop d (cV L) (jV L) A B t O W (b := 0) trips2 (fun i => row2 d A B t L _ i)) $$ [HC H0]
  · isplitl [HC] <;> iassumption
  iintro ⟨HC, H0⟩
  iapply (lane_start_out d (cV L) (jV L) A B t O W (b := 0) (by decide) hg ((k0_off2_eq L g 0).trans (chunk_eq L))) $$ [HC H0]
  · isplitl [HC] <;> iassumption
  iintro ⟨HC, H0⟩
  iapply (lane_start_in d (cV L) (jV L) A B t O W (b := 0) (by decide) hg (cond2_iff g) ((k0_off6_eq L g).trans (next_eq L (r := 0) rfl))) $$ [HC H0]
  · isplitl [HC] <;> iassumption
  iintro ⟨HC, H0⟩
  iapply (lane_wait_in d (cV L) (jV L) A B t O W hO (b := 1) (by decide) hg) $$ [HC H1]
  · isplitl [HC] <;> iassumption
  iintro ⟨HC, H1⟩
  iapply (lane_wait_out d (cV L) (jV L) A B t O W hO (b := 1) (by decide) hg (cond3_iff g)) $$ [HC H1]
  · isplitl [HC] <;> iassumption
  iintro ⟨HC, H1⟩
  iapply (lane_loop d (cV L) (jV L) A B t O W (b := 1) trips3 (fun i => row3 d A B t L _ i)) $$ [HC H1]
  · isplitl [HC] <;> iassumption
  iintro ⟨HC, H1⟩
  iapply (lane_start_out d (cV L) (jV L) A B t O W (b := 1) (by decide) hg ((k0_off2_eq L g 1).trans (chunk_eq L))) $$ [HC H1]
  · isplitl [HC] <;> iassumption
  iintro ⟨HC, H1⟩
  sl_step
  iapply Hk
  isplitl [HC]; · iexact HC
  isplitl [H0]; · iexact H0
  iexact H1

set_option maxRecDepth 65536 in
set_option maxHeartbeats 1000000 in
theorem part2_wp (hO : ∀ x, O x none = 0) {v2 a₁ a₂ a₃ a₄ : BitVec 32} (g : Fin k0_t1_loop.trips) {Q : _ → sProp (MT nD τ sig (HIx 1) (Elt F) ℕ UU ℕ)} :
    iprop(Ctx d (cV L) (jV L) A B O W
        ∗ Lane4 d (cV L) (jV L) A B t (pc L) 1 g.val (Memref.whole cc0_scratch3) (Memref.whole cc0_scratch11) cc0_scratch19.sem cc0_scratch27.sem
        ∗ Lane0 d (cV L) (jV L) A B t (pc L) 2 g.val (Memref.whole cc0_scratch4) (Memref.whole cc0_scratch12) cc0_scratch20.sem cc0_scratch28.sem
        ∗ Lane0 d (cV L) (jV L) A B t (pc L) 3 g.val (Memref.whole cc0_scratch5) (Memref.whole cc0_scratch13) cc0_scratch21.sem cc0_scratch29.sem)
      ⊢ iprop((∀ r, (Ctx d (cV L) (jV L) A B O W
        ∗ Lane0 d (cV L) (jV L) A B t (pc L) 1 (g.val + 1) (Memref.whole cc0_scratch3) (Memref.whole cc0_scratch11) cc0_scratch19.sem cc0_scratch27.sem
        ∗ Lane0 d (cV L) (jV L) A B t (pc L) 2 (g.val + 1) (Memref.whole cc0_scratch4) (Memref.whole cc0_scratch12) cc0_scratch20.sem cc0_scratch28.sem
        ∗ Lane3 d (cV L) (jV L) A B t (pc L) 3 g.val (Memref.whole cc0_scratch5) (Memref.whole cc0_scratch13) cc0_scratch21.sem cc0_scratch29.sem) -∗ Q r)
        -∗ wp frame (wpE (defs₀ (F := F)) 𝒱₀ (V d (cV L) (jV L)) none) Set.univ
          (k0_part2 (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1
            v2 31#32 g a₁ a₂ a₃ a₄) Q) := by
  have hg : g.val < 16 := lt_of_lt_of_eq g.isLt trips_outer
  rw [k0_part2_eq_skeleton]
  unfold k0_part2_skel
  iintro ⟨HC, H1, H2, H3⟩ Hk
  iapply (lane_start_in d (cV L) (jV L) A B t O W (b := 1) (by decide) hg (cond4_iff g) ((k0_off10_eq L g).trans (next_eq L (r := 1) rfl))) $$ [HC H1]
  · isplitl [HC] <;> iassumption
  iintro ⟨HC, H1⟩
  iapply (lane_wait_in d (cV L) (jV L) A B t O W hO (b := 2) (by decide) hg) $$ [HC H2]
  · isplitl [HC] <;> iassumption
  iintro ⟨HC, H2⟩
  iapply (lane_wait_out d (cV L) (jV L) A B t O W hO (b := 2) (by decide) hg (cond5_iff g)) $$ [HC H2]
  · isplitl [HC] <;> iassumption
  iintro ⟨HC, H2⟩
  iapply (lane_loop d (cV L) (jV L) A B t O W (b := 2) trips4 (fun i => row4 d A B t L _ i)) $$ [HC H2]
  · isplitl [HC] <;> iassumption
  iintro ⟨HC, H2⟩
  iapply (lane_start_out d (cV L) (jV L) A B t O W (b := 2) (by decide) hg ((k0_off2_eq L g 2).trans (chunk_eq L))) $$ [HC H2]
  · isplitl [HC] <;> iassumption
  iintro ⟨HC, H2⟩
  iapply (lane_start_in d (cV L) (jV L) A B t O W (b := 2) (by decide) hg (cond6_iff g) ((k0_off14_eq L g).trans (next_eq L (r := 2) rfl))) $$ [HC H2]
  · isplitl [HC] <;> iassumption
  iintro ⟨HC, H2⟩
  iapply (lane_wait_in d (cV L) (jV L) A B t O W hO (b := 3) (by decide) hg) $$ [HC H3]
  · isplitl [HC] <;> iassumption
  iintro ⟨HC, H3⟩
  iapply (lane_wait_out d (cV L) (jV L) A B t O W hO (b := 3) (by decide) hg (cond7_iff g)) $$ [HC H3]
  · isplitl [HC] <;> iassumption
  iintro ⟨HC, H3⟩
  iapply (lane_loop d (cV L) (jV L) A B t O W (b := 3) trips5 (fun i => row5 d A B t L _ i)) $$ [HC H3]
  · isplitl [HC] <;> iassumption
  iintro ⟨HC, H3⟩
  sl_step
  iapply Hk
  isplitl [HC]; · iexact HC
  isplitl [H1]; · iexact H1
  isplitl [H2]; · iexact H2
  iexact H3

set_option maxRecDepth 65536 in
set_option maxHeartbeats 1000000 in
theorem part3_wp (hO : ∀ x, O x none = 0) {v2 a₁ a₂ a₃ : BitVec 32} (g : Fin k0_t1_loop.trips) {Q : _ → sProp (MT nD τ sig (HIx 1) (Elt F) ℕ UU ℕ)} :
    iprop(Ctx d (cV L) (jV L) A B O W
        ∗ Lane3 d (cV L) (jV L) A B t (pc L) 3 g.val (Memref.whole cc0_scratch5) (Memref.whole cc0_scratch13) cc0_scratch21.sem cc0_scratch29.sem
        ∗ Lane0 d (cV L) (jV L) A B t (pc L) 4 g.val (Memref.whole cc0_scratch6) (Memref.whole cc0_scratch14) cc0_scratch22.sem cc0_scratch30.sem
        ∗ Lane0 d (cV L) (jV L) A B t (pc L) 5 g.val (Memref.whole cc0_scratch7) (Memref.whole cc0_scratch15) cc0_scratch23.sem cc0_scratch31.sem)
      ⊢ iprop((∀ r, (Ctx d (cV L) (jV L) A B O W
        ∗ Lane0 d (cV L) (jV L) A B t (pc L) 3 (g.val + 1) (Memref.whole cc0_scratch5) (Memref.whole cc0_scratch13) cc0_scratch21.sem cc0_scratch29.sem
        ∗ Lane0 d (cV L) (jV L) A B t (pc L) 4 (g.val + 1) (Memref.whole cc0_scratch6) (Memref.whole cc0_scratch14) cc0_scratch22.sem cc0_scratch30.sem
        ∗ Lane3 d (cV L) (jV L) A B t (pc L) 5 g.val (Memref.whole cc0_scratch7) (Memref.whole cc0_scratch15) cc0_scratch23.sem cc0_scratch31.sem) -∗ Q r)
        -∗ wp frame (wpE (defs₀ (F := F)) 𝒱₀ (V d (cV L) (jV L)) none) Set.univ
          (k0_part3 (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1
            v2 31#32 g a₁ a₂ a₃) Q) := by
  have hg : g.val < 16 := lt_of_lt_of_eq g.isLt trips_outer
  rw [k0_part3_eq_skeleton]
  unfold k0_part3_skel
  iintro ⟨HC, H3, H4, H5⟩ Hk
  iapply (lane_start_out d (cV L) (jV L) A B t O W (b := 3) (by decide) hg ((k0_off2_eq L g 3).trans (chunk_eq L))) $$ [HC H3]
  · isplitl [HC] <;> iassumption
  iintro ⟨HC, H3⟩
  iapply (lane_start_in d (cV L) (jV L) A B t O W (b := 3) (by decide) hg (cond8_iff g) ((k0_off18_eq L g).trans (next_eq L (r := 3) rfl))) $$ [HC H3]
  · isplitl [HC] <;> iassumption
  iintro ⟨HC, H3⟩
  iapply (lane_wait_in d (cV L) (jV L) A B t O W hO (b := 4) (by decide) hg) $$ [HC H4]
  · isplitl [HC] <;> iassumption
  iintro ⟨HC, H4⟩
  iapply (lane_wait_out d (cV L) (jV L) A B t O W hO (b := 4) (by decide) hg (cond9_iff g)) $$ [HC H4]
  · isplitl [HC] <;> iassumption
  iintro ⟨HC, H4⟩
  iapply (lane_loop d (cV L) (jV L) A B t O W (b := 4) trips6 (fun i => row6 d A B t L _ i)) $$ [HC H4]
  · isplitl [HC] <;> iassumption
  iintro ⟨HC, H4⟩
  iapply (lane_start_out d (cV L) (jV L) A B t O W (b := 4) (by decide) hg ((k0_off2_eq L g 4).trans (chunk_eq L))) $$ [HC H4]
  · isplitl [HC] <;> iassumption
  iintro ⟨HC, H4⟩
  iapply (lane_start_in d (cV L) (jV L) A B t O W (b := 4) (by decide) hg (cond10_iff g) ((k0_off22_eq L g).trans (next_eq L (r := 4) rfl))) $$ [HC H4]
  · isplitl [HC] <;> iassumption
  iintro ⟨HC, H4⟩
  iapply (lane_wait_in d (cV L) (jV L) A B t O W hO (b := 5) (by decide) hg) $$ [HC H5]
  · isplitl [HC] <;> iassumption
  iintro ⟨HC, H5⟩
  iapply (lane_wait_out d (cV L) (jV L) A B t O W hO (b := 5) (by decide) hg (cond11_iff g)) $$ [HC H5]
  · isplitl [HC] <;> iassumption
  iintro ⟨HC, H5⟩
  iapply (lane_loop d (cV L) (jV L) A B t O W (b := 5) trips7 (fun i => row7 d A B t L _ i)) $$ [HC H5]
  · isplitl [HC] <;> iassumption
  iintro ⟨HC, H5⟩
  sl_step
  iapply Hk
  isplitl [HC]; · iexact HC
  isplitl [H3]; · iexact H3
  isplitl [H4]; · iexact H4
  iexact H5

set_option maxRecDepth 65536 in
set_option maxHeartbeats 1000000 in
theorem part4_wp (hO : ∀ x, O x none = 0) {v2 a₁ a₂ a₃ : BitVec 32} (g : Fin k0_t1_loop.trips) {Q : _ → sProp (MT nD τ sig (HIx 1) (Elt F) ℕ UU ℕ)} :
    iprop(Ctx d (cV L) (jV L) A B O W
        ∗ Lane3 d (cV L) (jV L) A B t (pc L) 5 g.val (Memref.whole cc0_scratch7) (Memref.whole cc0_scratch15) cc0_scratch23.sem cc0_scratch31.sem
        ∗ Lane0 d (cV L) (jV L) A B t (pc L) 6 g.val (Memref.whole cc0_scratch8) (Memref.whole cc0_scratch16) cc0_scratch24.sem cc0_scratch32.sem
        ∗ Lane0 d (cV L) (jV L) A B t (pc L) 7 g.val (Memref.whole cc0_scratch9) (Memref.whole cc0_scratch17) cc0_scratch25.sem cc0_scratch33.sem)
      ⊢ iprop((∀ r, (Ctx d (cV L) (jV L) A B O W
        ∗ Lane0 d (cV L) (jV L) A B t (pc L) 5 (g.val + 1) (Memref.whole cc0_scratch7) (Memref.whole cc0_scratch15) cc0_scratch23.sem cc0_scratch31.sem
        ∗ Lane0 d (cV L) (jV L) A B t (pc L) 6 (g.val + 1) (Memref.whole cc0_scratch8) (Memref.whole cc0_scratch16) cc0_scratch24.sem cc0_scratch32.sem
        ∗ Lane2 d (cV L) (jV L) A B t (pc L) 7 g.val (Memref.whole cc0_scratch9) (Memref.whole cc0_scratch17) cc0_scratch25.sem cc0_scratch33.sem) -∗ Q r)
        -∗ wp frame (wpE (defs₀ (F := F)) 𝒱₀ (V d (cV L) (jV L)) none) Set.univ
          (k0_part4 (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1
            v2 31#32 g a₁ a₂ a₃) Q) := by
  have hg : g.val < 16 := lt_of_lt_of_eq g.isLt trips_outer
  rw [k0_part4_eq_skeleton]
  unfold k0_part4_skel
  iintro ⟨HC, H5, H6, H7⟩ Hk
  iapply (lane_start_out d (cV L) (jV L) A B t O W (b := 5) (by decide) hg ((k0_off2_eq L g 5).trans (chunk_eq L))) $$ [HC H5]
  · isplitl [HC] <;> iassumption
  iintro ⟨HC, H5⟩
  iapply (lane_start_in d (cV L) (jV L) A B t O W (b := 5) (by decide) hg (cond12_iff g) ((k0_off26_eq L g).trans (next_eq L (r := 5) rfl))) $$ [HC H5]
  · isplitl [HC] <;> iassumption
  iintro ⟨HC, H5⟩
  iapply (lane_wait_in d (cV L) (jV L) A B t O W hO (b := 6) (by decide) hg) $$ [HC H6]
  · isplitl [HC] <;> iassumption
  iintro ⟨HC, H6⟩
  iapply (lane_wait_out d (cV L) (jV L) A B t O W hO (b := 6) (by decide) hg (cond13_iff g)) $$ [HC H6]
  · isplitl [HC] <;> iassumption
  iintro ⟨HC, H6⟩
  iapply (lane_loop d (cV L) (jV L) A B t O W (b := 6) trips8 (fun i => row8 d A B t L _ i)) $$ [HC H6]
  · isplitl [HC] <;> iassumption
  iintro ⟨HC, H6⟩
  iapply (lane_start_out d (cV L) (jV L) A B t O W (b := 6) (by decide) hg ((k0_off2_eq L g 6).trans (chunk_eq L))) $$ [HC H6]
  · isplitl [HC] <;> iassumption
  iintro ⟨HC, H6⟩
  iapply (lane_start_in d (cV L) (jV L) A B t O W (b := 6) (by decide) hg (cond14_iff g) ((k0_off30_eq L g).trans (next_eq L (r := 6) rfl))) $$ [HC H6]
  · isplitl [HC] <;> iassumption
  iintro ⟨HC, H6⟩
  iapply (lane_wait_in d (cV L) (jV L) A B t O W hO (b := 7) (by decide) hg) $$ [HC H7]
  · isplitl [HC] <;> iassumption
  iintro ⟨HC, H7⟩
  iapply (lane_wait_out d (cV L) (jV L) A B t O W hO (b := 7) (by decide) hg (cond15_iff g)) $$ [HC H7]
  · isplitl [HC] <;> iassumption
  iintro ⟨HC, H7⟩
  sl_step
  iapply Hk
  isplitl [HC]; · iexact HC
  isplitl [H5]; · iexact H5
  isplitl [H6]; · iexact H6
  iexact H7

/-- The eight lanes before trip `g`. -/
def Lanes (g : ℕ) : sProp 𝕄 :=
  iprop(Lane0 d (cV L) (jV L) A B t (pc L) 0 g (Memref.whole cc0_scratch2) (Memref.whole cc0_scratch10) cc0_scratch18.sem cc0_scratch26.sem
        ∗ Lane0 d (cV L) (jV L) A B t (pc L) 1 g (Memref.whole cc0_scratch3) (Memref.whole cc0_scratch11) cc0_scratch19.sem cc0_scratch27.sem
        ∗ Lane0 d (cV L) (jV L) A B t (pc L) 2 g (Memref.whole cc0_scratch4) (Memref.whole cc0_scratch12) cc0_scratch20.sem cc0_scratch28.sem
        ∗ Lane0 d (cV L) (jV L) A B t (pc L) 3 g (Memref.whole cc0_scratch5) (Memref.whole cc0_scratch13) cc0_scratch21.sem cc0_scratch29.sem
        ∗ Lane0 d (cV L) (jV L) A B t (pc L) 4 g (Memref.whole cc0_scratch6) (Memref.whole cc0_scratch14) cc0_scratch22.sem cc0_scratch30.sem
        ∗ Lane0 d (cV L) (jV L) A B t (pc L) 5 g (Memref.whole cc0_scratch7) (Memref.whole cc0_scratch15) cc0_scratch23.sem cc0_scratch31.sem
        ∗ Lane0 d (cV L) (jV L) A B t (pc L) 6 g (Memref.whole cc0_scratch8) (Memref.whole cc0_scratch16) cc0_scratch24.sem cc0_scratch32.sem
        ∗ Lane0 d (cV L) (jV L) A B t (pc L) 7 g (Memref.whole cc0_scratch9) (Memref.whole cc0_scratch17) cc0_scratch25.sem cc0_scratch33.sem)

set_option maxRecDepth 65536 in
set_option maxHeartbeats 1000000 in
/-- One trip of the outer loop. -/
theorem group_wp (hO : ∀ x, O x none = 0) {v2 : BitVec 32} (g : Fin k0_t1_loop.trips) :
    iprop(Ctx d (cV L) (jV L) A B O W ∗ Lanes d A B t L g.val)
      ⊢ wp frame (wpE (defs₀ (F := F)) 𝒱₀ (V d (cV L) (jV L)) none) Set.univ
          (k0_t1_body (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1
            v2 g ())
          fun _ => iprop(Ctx d (cV L) (jV L) A B O W ∗ Lanes d A B t L (g.val + 1)) := by
  have hg : g.val < 16 := lt_of_lt_of_eq g.isLt trips_outer
  unfold k0_t1_body Lanes
  iintro ⟨HC, H0, H1, H2, H3, H4, H5, H6, H7⟩
  rw [wp_bind]
  iapply (part1_wp d A B t L O W hO g) $$ [HC H0 H1]
  · isplitl [HC]; · iexact HC
    isplitl [H0]; · iexact H0
    iexact H1
  iintro %r ⟨HC, H0, H1⟩
  obtain ⟨v53, v69, v71, c8⟩ := r
  dsimp only
  rw [wp_bind]
  iapply (part2_wp d A B t L O W hO g) $$ [HC H1 H2 H3]
  · isplitl [HC]; · iexact HC
    isplitl [H1]; · iexact H1
    isplitl [H2] <;> iassumption
  iintro %r ⟨HC, H1, H2, H3⟩
  obtain ⟨v99, v101⟩ := r
  dsimp only
  rw [wp_bind]
  iapply (part3_wp d A B t L O W hO g) $$ [HC H3 H4 H5]
  · isplitl [HC]; · iexact HC
    isplitl [H3]; · iexact H3
    isplitl [H4] <;> iassumption
  iintro %r ⟨HC, H3, H4, H5⟩
  obtain ⟨v129, v131⟩ := r
  dsimp only
  rw [wp_bind]
  iapply (part4_wp d A B t L O W hO g) $$ [HC H5 H6 H7]
  · isplitl [HC]; · iexact HC
    isplitl [H5]; · iexact H5
    isplitl [H6] <;> iassumption
  iintro %r ⟨HC, H5, H6, H7⟩
  obtain ⟨v159, v161, x₁, x₂⟩ := r
  iapply (lane_loop d (cV L) (jV L) A B t O W (b := 7) trips9 (fun i => row9 d A B t L _ i)) $$ [HC H7]
  · isplitl [HC] <;> iassumption
  iintro ⟨HC, H7⟩
  iapply (lane_start_out d (cV L) (jV L) A B t O W (b := 7) (by decide) hg ((k0_off2_eq L g 7).trans (chunk_eq L))) $$ [HC H7]
  · isplitl [HC] <;> iassumption
  iintro ⟨HC, H7⟩
  iapply (lane_start_in d (cV L) (jV L) A B t O W (b := 7) (by decide) hg (cond16_iff g) ((k0_off34_eq L g).trans (next_eq L (r := 7) rfl))) $$ [HC H7]
  · isplitl [HC] <;> iassumption
  iintro ⟨HC, H7⟩
  sl_step
  isplitl [HC]; · iexact HC
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Plf

end
-- ==== Proof.Own.lean ====
/-
  The kernel on one vector subcore: from its piece of `t`, its piece of the result and its read shares of the two tables, to
  the piece of the result at its values.
-/
module

public import proofs.«01_k».proof.Proof.Ring

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A piece is its eight lanes -/

/-- The elements of piece `w`. -/
def Piece (w : ℕ) : Finset S16777216.Idx := Finset.univ.filter fun k => (k 0).val / 524288 = w

theorem mem_Piece {w : ℕ} {k : S16777216.Idx} : k ∈ Piece w ↔ (k 0).val / 524288 = w := by simp [Piece]

theorem piece_eq (w : ℕ) : Piece w = (Finset.univ : Finset (Fin 8)).biUnion fun b => Lane w b.val := by
  ext k
  rw [mem_Piece, Finset.mem_biUnion]
  constructor
  · intro h
    exact ⟨⟨(k 0).val / 4096 % 8, Nat.mod_lt _ (by decide)⟩, Finset.mem_univ _, mem_Lane.mpr ⟨h, rfl⟩⟩
  · rintro ⟨b, -, hb⟩
    exact (mem_Lane.mp hb).1

theorem lanes_disjoint (w : ℕ) : ∀ b ∈ (Finset.univ : Finset (Fin 8)), ∀ b' ∈ (Finset.univ : Finset (Fin 8)), b ≠ b' →
    Disjoint (Lane w b.val) (Lane w b'.val) := fun b _ b' _ hne =>
  Finset.disjoint_left.mpr fun k h h' => hne (Fin.ext ((mem_Lane.mp h).2.symm.trans (mem_Lane.mp h').2))

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  repeat rw [bigSep_insert (by decide)]
  rw [bigSep_singleton]
  rfl

/-! ## The subcore's own buffers and semaphores -/

/-- The scratch buffers, by number. -/
def bufRef (i : Fin 18) : Ref sig .scVector := ⟨.vmem, i, rfl⟩

/-- The semaphores of its copies, by number. -/
def semRef : Fin 18 → SemLoc sig :=
  ![.dma cc0_scratch18.sem, .dma cc0_scratch19.sem, .dma cc0_scratch20.sem, .dma cc0_scratch21.sem,
    .dma cc0_scratch22.sem, .dma cc0_scratch23.sem, .dma cc0_scratch24.sem, .dma cc0_scratch25.sem,
    .dma cc0_scratch26.sem, .dma cc0_scratch27.sem, .dma cc0_scratch28.sem, .dma cc0_scratch29.sem,
    .dma cc0_scratch30.sem, .dma cc0_scratch31.sem, .dma cc0_scratch32.sem, .dma cc0_scratch33.sem,
    .dma cc0_scoped0.sem, .dma cc0_scoped1.sem]

theorem bufRef_injective : Function.Injective bufRef := by
  intro i j h
  have := congrArg (fun r : Ref sig .scVector => r.idx.val) h
  exact Fin.ext this

theorem semRef_injective : Function.Injective semRef := by decide +kernel

theorem semRef_scoped : ∀ i, (semRef i).isScoped .scVector = true := by decide +kernel

variable (d : Dev nD) (L : grid0.Coords)

def bufEmb : Fin 18 ↪ DevRef τ sig :=
  ⟨fun i => (Proc.scVector (cV L) (jV L)).devRef (bufRef i), fun _ _ h => bufRef_injective (Proc.devRef_injective _ h)⟩

def semEmb : Fin 18 ↪ GSem nD τ sig :=
  ⟨fun i => (V d (cV L) (jV L), semRef i), fun _ _ h => semRef_injective (congrArg Prod.snd h)⟩

/-- The subcore's own buffers that the kernel does not name, and its own cells likewise. -/
def RestBufs : sProp 𝕄 :=
  bigSep (SparseCore.Cfg.ownRefs (τ := τ) (.scVector (cV L) (jV L)) \ Finset.univ.map (bufEmb L)) fun b => iprop(∃ f, ((d, b) : Loc nD τ sig) ↦{fullShare} f)

def RestSems : sProp 𝕄 :=
  bigSep (SparseCore.Cfg.ownCells (V d (cV L) (jV L)) \ Finset.univ.map (semEmb d L)) fun g => semVal g 0

theorem bigSep_eighteen (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [show (Finset.univ : Finset (Fin 18)) = {0, 1, 2, 3, 4, 5, 6, 7, 8, 9, 10, 11, 12, 13, 14, 15, 16, 17} from by decide]
  repeat rw [bigSep_insert (by decide)]
  rw [bigSep_singleton]
  rfl

theorem ownBufs_V :
    (SparseCore.Cfg.ownBufs (V d (cV L) (jV L)) : sProp 𝕄)
      = iprop(((∃ f, (V d (cV L) (jV L)).loc cc0_scratch0 ↦{fullShare} f)
        ∗ (∃ f, (V d (cV L) (jV L)).loc cc0_scratch1 ↦{fullShare} f)
        ∗ Any d (cV L) (jV L) (Memref.whole cc0_scratch2)
        ∗ Any d (cV L) (jV L) (Memref.whole cc0_scratch3)
        ∗ Any d (cV L) (jV L) (Memref.whole cc0_scratch4)
        ∗ Any d (cV L) (jV L) (Memref.whole cc0_scratch5)
        ∗ Any d (cV L) (jV L) (Memref.whole cc0_scratch6)
        ∗ Any d (cV L) (jV L) (Memref.whole cc0_scratch7)
        ∗ Any d (cV L) (jV L) (Memref.whole cc0_scratch8)
        ∗ Any d (cV L) (jV L) (Memref.whole cc0_scratch9)
        ∗ Any d (cV L) (jV L) (Memref.whole cc0_scratch10)
        ∗ Any d (cV L) (jV L) (Memref.whole cc0_scratch11)
        ∗ Any d (cV L) (jV L) (Memref.whole cc0_scratch12)
        ∗ Any d (cV L) (jV L) (Memref.whole cc0_scratch13)
        ∗ Any d (cV L) (jV L) (Memref.whole cc0_scratch14)
        ∗ Any d (cV L) (jV L) (Memref.whole cc0_scratch15)
        ∗ Any d (cV L) (jV L) (Memref.whole cc0_scratch16)
        ∗ Any d (cV L) (jV L) (Memref.whole cc0_scratch17))
        ∗ RestBufs d L) := by
  unfold SparseCore.Cfg.ownBufs RestBufs
  rw [SparseCore.bigSep_sdiff_split' (t := Finset.univ.map (bufEmb L)) (fun b hb => by
    obtain ⟨i, -, rfl⟩ := Finset.mem_map.mp hb
    exact SparseCore.Cfg.mem_ownRefs_of_owner (p := Proc.scVector (cV L) (jV L)) rfl)]
  rw [BI.bigSep_map, bigSep_eighteen]
  simp only [Any, View.set_whole, Memref.view_whole]
  rfl

theorem ownSems0_V :
    (SparseCore.Cfg.ownSems0 (V d (cV L) (jV L)) : sProp 𝕄)
      = iprop((semVal (V d (cV L) (jV L), .dma cc0_scratch18.sem) 0
        ∗ semVal (V d (cV L) (jV L), .dma cc0_scratch19.sem) 0
        ∗ semVal (V d (cV L) (jV L), .dma cc0_scratch20.sem) 0
        ∗ semVal (V d (cV L) (jV L), .dma cc0_scratch21.sem) 0
        ∗ semVal (V d (cV L) (jV L), .dma cc0_scratch22.sem) 0
        ∗ semVal (V d (cV L) (jV L), .dma cc0_scratch23.sem) 0
        ∗ semVal (V d (cV L) (jV L), .dma cc0_scratch24.sem) 0
        ∗ semVal (V d (cV L) (jV L), .dma cc0_scratch25.sem) 0
        ∗ semVal (V d (cV L) (jV L), .dma cc0_scratch26.sem) 0
        ∗ semVal (V d (cV L) (jV L), .dma cc0_scratch27.sem) 0
        ∗ semVal (V d (cV L) (jV L), .dma cc0_scratch28.sem) 0
        ∗ semVal (V d (cV L) (jV L), .dma cc0_scratch29.sem) 0
        ∗ semVal (V d (cV L) (jV L), .dma cc0_scratch30.sem) 0
        ∗ semVal (V d (cV L) (jV L), .dma cc0_scratch31.sem) 0
        ∗ semVal (V d (cV L) (jV L), .dma cc0_scratch32.sem) 0
        ∗ semVal (V d (cV L) (jV L), .dma cc0_scratch33.sem) 0
        ∗ semVal (V d (cV L) (jV L), .dma cc0_scoped0.sem) 0
        ∗ semVal (V d (cV L) (jV L), .dma cc0_scoped1.sem) 0)
        ∗ RestSems d L) := by
  unfold SparseCore.Cfg.ownSems0 RestSems
  rw [SparseCore.bigSep_sdiff_split' (t := Finset.univ.map (semEmb d L)) (fun g hg => by
    obtain ⟨i, -, rfl⟩ := Finset.mem_map.mp hg
    exact SparseCore.Cfg.mem_ownCells.mpr ⟨rfl, semRef_scoped i⟩)]
  rw [BI.bigSep_map, bigSep_eighteen]
  rfl

/-! ## The start and the end of a lane -/

variable (A B : FVec F S32 .f32) (t : Buf (Elt F) (tLoc d))
variable (O : CellTallies nD τ sig (HIx 1)) (W : Waits sig (HIx 1))

theorem out_start {w b : ℕ} {ob : Memref sig .scVector .vmem S4096 .f32} {so : DmaSem sig} (f : Buf (Elt F) (oLoc d)) :
    iprop((oLoc d ↦[Lane w b]{fullShare} f) ∗ semVal (V d (cV L) (jV L), .dma so) 0 ∗ Any d (cV L) (jV L) ob)
      ⊢ OutAt d (cV L) (jV L) A B t w b 0 ob so := by
  unfold OutAt OutIdle Done
  rw [if_pos rfl]
  iintro ⟨Ho, Hs, Ha⟩
  isplitr [Ha]
  · isplitl [Ho]
    · iexists f
      isplitr
      · ipureintro
        intro k hk hlt
        rw [mem_Lane] at hk
        omega
      · iexact Ho
    · iexact Hs
  · iexact Ha

theorem out_end {w b : ℕ} {so : DmaSem sig} (hb : b < 8) :
    OutIdle d (cV L) (jV L) (outV A B t) w b (128 * w + 128 + b) so
      ⊢ iprop((oLoc d ↦[Lane w b]{fullShare} (outV A B t : Buf (Elt F) (oLoc d))) ∗ semVal (V d (cV L) (jV L), .dma so) 0) := by
  unfold OutIdle Done
  iintro ⟨⟨%f, %hf, Ho⟩, Hs⟩
  isplitl [Ho]
  · iapply (Entails.of_eq (pointsTo_congr (fun k hk => hf k hk (by rw [mem_Lane] at hk; omega)))) $$ Ho
  · iexact Hs

/-- A table's fetch and its wait. -/
theorem fetch_wp {α : Type} {Q : α → sProp (MT nD τ sig (HIx 1) (Elt F) ℕ UU ℕ)}
    {src : Memref sig .scVector .hbm S32 .f32} {dst : Memref sig .scVector .vmem S32 .f32} {sm : DmaSem sig} {h₁ h₂ h₃ h₄ h₅}
    {k : Unit → Prog (TpuEff nD τ sig (Elt F) Λ₀ (.scVector (cV L) (jV L))) α} {q : PosShare TreeShare}
    (hO : ∀ x, O x none = 0) (hs : src.view.set = Finset.univ)
    {X : Buf (Elt F) (src.view.loc (V d (cV L) (jV L)))} {Y : Buf (Elt F) (dst.view.loc (V d (cV L) (jV L)))}
    (hXY : ∀ f, dst.view.write (Elt F) f (src.view.read (Elt F) X) Finset.univ = Y) :
    iprop(levAts (K (F := F)).L (K (F := F)).lev ∗ (src.view.loc (V d (cV L) (jV L)) ↦{q} X)
        ∗ (∃ f, dst.view.loc (V d (cV L) (jV L)) ↦{fullShare} f) ∗ semVal (V d (cV L) (jV L), .dma sm) 0 ∗ Ow d (cV L) (jV L) O W)
      ⊢ iprop((((src.view.loc (V d (cV L) (jV L)) ↦{q} X) ∗ (dst.view.loc (V d (cV L) (jV L)) ↦{fullShare} Y)
            ∗ semVal (V d (cV L) (jV L), .dma sm) 0 ∗ Ow d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.enqueueDma src (.here dst) (.dma sm) h₁ h₂ h₃) >>= fun _ => Prog.lift (.waitDma2 sm src dst h₄ h₅) >>= k) Q) := by
  unfold Ow
  rw [show (src.view.loc (V d (cV L) (jV L)) ↦{q} X : sProp 𝕄) = src.view.loc (V d (cV L) (jV L)) ↦[src.view.set]{q} X by rw [hs]]
  iintro ⟨#Hlv, Hx, ⟨%f, Hy⟩, Hs, %W', %hW', HO⟩ Hk
  iapply (Transfers.wp_dmaLocal countersEmb 𝒱₀ (V d (cV L) (jV L)) none (none : HIx 1) dst.view.dmaCredit rfl
    (View.dmaCredit_pos _ (by decide)) (Sd := Finset.univ) (Finset.subset_univ _)) $$ [Hx Hy Hs]
  · isplitl [Hx]; · iexact Hx
    isplitl [Hy]; · iexact Hy
    iexact Hs
  iintro Hf
  iapply (Transfers.wp_waitLocalO countersEmb 𝒱₀ (V d (cV L) (jV L)) none (none : HIx 1) (rfl : dst.view.dmaCredit = _)) $$ [Hf HO]
  · isplitl [Hf]; · iexact Hf
    isplitl [HO]; · iexact HO
    iapply ((K (F := F)).mayWait_none (thr := V d (cV L) (jV L)) (SemLoc.dma sm) hO) $$ Hlv
  iintro ⟨⟨Hy, Hx⟩, Hs, HO⟩
  iapply Hk
  isplitl [Hx]; · iexact Hx
  isplitl [Hy]
  · iapply (Entails.of_eq (congrArg (fun z => (dst.view.loc (V d (cV L) (jV L)) ↦{fullShare} z : sProp 𝕄)) (hXY f))) $$ Hy
  isplitl [Hs]; · iexact Hs
  iexists _; isplitr
  swap; · iexact HO
  ipureintro
  intro p hp
  rcases Finset.mem_insert.mp hp with hp | hp
  · exact .inr (hp ▸ rfl)
  · exact hW' p hp

end Cert.Proof.Plf

end
-- ==== Proof.Tile.lean ====
/-
  The kernel on one vector subcore, whole: the first fetches, the two tables, the sixteen trips, the last waits.
-/
module

public import proofs.«01_k».proof.Proof.Own

@[expose] public section

noncomputable section

namespace Cert.Proof.Plf

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

theorem tPiece (w : ℕ) (f : Buf (Elt F) (tLoc d)) :
    (tLoc d ↦[Piece w]{fullShare} f : sProp 𝕄)
      = iprop((tLoc d ↦[Lane w 0]{fullShare} f) ∗ (tLoc d ↦[Lane w 1]{fullShare} f) ∗ (tLoc d ↦[Lane w 2]{fullShare} f) ∗ (tLoc d ↦[Lane w 3]{fullShare} f) ∗ (tLoc d ↦[Lane w 4]{fullShare} f) ∗ (tLoc d ↦[Lane w 5]{fullShare} f) ∗ (tLoc d ↦[Lane w 6]{fullShare} f) ∗ (tLoc d ↦[Lane w 7]{fullShare} f)) := by
  rw [piece_eq, pointsTo_biUnion _ _ (lanes_disjoint w), bigSep_eight]
  rfl

theorem oPiece (w : ℕ) (f : Buf (Elt F) (oLoc d)) :
    (oLoc d ↦[Piece w]{fullShare} f : sProp 𝕄)
      = iprop((oLoc d ↦[Lane w 0]{fullShare} f) ∗ (oLoc d ↦[Lane w 1]{fullShare} f) ∗ (oLoc d ↦[Lane w 2]{fullShare} f) ∗ (oLoc d ↦[Lane w 3]{fullShare} f) ∗ (oLoc d ↦[Lane w 4]{fullShare} f) ∗ (oLoc d ↦[Lane w 5]{fullShare} f) ∗ (oLoc d ↦[Lane w 6]{fullShare} f) ∗ (oLoc d ↦[Lane w 7]{fullShare} f)) := by
  rw [piece_eq, pointsTo_biUnion _ _ (lanes_disjoint w), bigSep_eight]
  rfl

/-- What a subcore is handed: its piece of `t`, its piece of the result, its shares of the tables. -/
def Handed (A B : FVec F S32 .f32) (t : Buf (Elt F) (tLoc d)) (w : ℕ) (q : PosShare TreeShare) (f : Buf (Elt F) (oLoc d)) : sProp 𝕄 :=
  iprop((tLoc d ↦[Piece w]{fullShare} t) ∗ (oLoc d ↦[Piece w]{fullShare} f) ∗ (aLoc d ↦{q} A) ∗ (bLoc d ↦{q} B))

set_option maxRecDepth 65536 in
set_option maxHeartbeats 4000000 in
/-- The task on the subcore at `L`. -/
theorem tile_body (hF : (K (F := F)).Facts) (A B : FVec F S32 .f32) (t : Buf (Elt F) (tLoc d)) (q : PosShare TreeShare)
    (f : Buf (Elt F) (oLoc d)) (O : CellTallies nD τ sig (HIx 1)) (W : Waits sig (HIx 1)) (hO : ∀ x, O x none = 0) :
    iprop(levAts (K (F := F)).L (K (F := F)).lev ∗ emp ∗ Handed d A B t (pc L) q f
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__plf_body (F := F) L
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1)
          fun _ => iprop(Handed d A B t (pc L) q (outV A B t)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__plf_body_eq_skeleton]
  unfold cc0__plf_body_skel
  rw [(K (F := F)).scopedBufs_V hF d (cV L) (jV L), SparseCore.Cfg.scopedSems0_V (Val := Elt F) d (cV L) (jV L), ownSems0_V, ownBufs_V]
  unfold Handed
  rw [tPiece, oPiece, oPiece]
  iintro ⟨#Hlv, -, ⟨⟨Ht0, Ht1, Ht2, Ht3, Ht4, Ht5, Ht6, Ht7⟩, ⟨Ho0, Ho1, Ho2, Ho3, Ho4, Ho5, Ho6, Ho7⟩, HA, HB⟩, ⟨⟨Hta, Htb, Hi0, Hi1, Hi2, Hi3, Hi4, Hi5, Hi6, Hi7, Hr0, Hr1, Hr2, Hr3, Hr4, Hr5, Hr6, Hr7⟩, Hbufs⟩, ⟨⟨Hsi0, Hsi1, Hsi2, Hsi3, Hsi4, Hsi5, Hsi6, Hsi7, Hso0, Hso1, Hso2, Hso3, Hso4, Hso5, Hso6, Hso7, Hs8, Hs9⟩, Hsems⟩, HO⟩
  rw [wp_bind, k0_part5_eq_skeleton]
  unfold k0_part5_skel
  iapply (lane_first d (cV L) (jV L) t (w := pc L) (b := 0) (by decide) (off1_eq L 0)) $$ [Ht0 Hsi0 Hi0]
  · unfold InIdle
    isplitr [Hi0]
    · isplitl [Ht0] <;> iassumption
    · iexact Hi0
  iintro Hi0
  iapply (lane_first d (cV L) (jV L) t (w := pc L) (b := 1) (by decide) (off1_eq L 1)) $$ [Ht1 Hsi1 Hi1]
  · unfold InIdle
    isplitr [Hi1]
    · isplitl [Ht1] <;> iassumption
    · iexact Hi1
  iintro Hi1
  iapply (lane_first d (cV L) (jV L) t (w := pc L) (b := 2) (by decide) (off1_eq L 2)) $$ [Ht2 Hsi2 Hi2]
  · unfold InIdle
    isplitr [Hi2]
    · isplitl [Ht2] <;> iassumption
    · iexact Hi2
  iintro Hi2
  iapply (lane_first d (cV L) (jV L) t (w := pc L) (b := 3) (by decide) (off1_eq L 3)) $$ [Ht3 Hsi3 Hi3]
  · unfold InIdle
    isplitr [Hi3]
    · isplitl [Ht3] <;> iassumption
    · iexact Hi3
  iintro Hi3
  iapply (lane_first d (cV L) (jV L) t (w := pc L) (b := 4) (by decide) (off1_eq L 4)) $$ [Ht4 Hsi4 Hi4]
  · unfold InIdle
    isplitr [Hi4]
    · isplitl [Ht4] <;> iassumption
    · iexact Hi4
  iintro Hi4
  iapply (lane_first d (cV L) (jV L) t (w := pc L) (b := 5) (by decide) (off1_eq L 5)) $$ [Ht5 Hsi5 Hi5]
  · unfold InIdle
    isplitr [Hi5]
    · isplitl [Ht5] <;> iassumption
    · iexact Hi5
  iintro Hi5
  iapply (lane_first d (cV L) (jV L) t (w := pc L) (b := 6) (by decide) (off1_eq L 6)) $$ [Ht6 Hsi6 Hi6]
  · unfold InIdle
    isplitr [Hi6]
    · isplitl [Ht6] <;> iassumption
    · iexact Hi6
  iintro Hi6
  iapply (lane_first d (cV L) (jV L) t (w := pc L) (b := 7) (by decide) (off1_eq L 7)) $$ [Ht7 Hsi7 Hi7]
  · unfold InIdle
    isplitr [Hi7]
    · isplitl [Ht7] <;> iassumption
    · iexact Hi7
  iintro Hi7
  ihave HO := (show owes (V d (cV L) (jV L)) O W ⊢ Ow d (cV L) (jV L) O W by
    unfold Ow
    iintro H
    iexists W
    isplitr
    · ipureintro; exact fun p hp => .inl hp
    · iexact H) $$ HO
  iapply (fetch_wp d L O W (src := aV) (dst := taV) (q := q) (X := A) (Y := A) hO (View.set_whole _)
    (fun f => (View.write_whole_univ _ _ _).trans (View.read_whole _ _))) $$ [HA Hta Hs8 HO]
  · isplitr; · iexact Hlv
    isplitl [HA]; · iexact HA
    isplitl [Hta]; · iexact Hta
    isplitl [Hs8] <;> iassumption
  iintro ⟨HA, Hta, Hs8, HO⟩
  iapply (fetch_wp d L O W (src := bV) (dst := tbV) (q := q) (X := B) (Y := B) hO (View.set_whole _)
    (fun f => (View.write_whole_univ _ _ _).trans (View.read_whole _ _))) $$ [HB Htb Hs9 HO]
  · isplitr; · iexact Hlv
    isplitl [HB]; · iexact HB
    isplitl [Htb]; · iexact Htb
    isplitl [Hs9] <;> iassumption
  iintro ⟨HB, Htb, Hs9, HO⟩
  iapply (Scf.wp_for_bind frame (wpE (defs₀ (F := F)) 𝒱₀ (V d (cV L) (jV L)) none) Set.univ k0_t1_loop.lb k0_t1_loop.ub k0_t1_loop.st k0_t1_ok ()
    _ (fun n _ => iprop(Ctx d (cV L) (jV L) A B O W ∗ Lanes d A B t L n)) (fun g _ => group_wp d A B t L O W hO g)) $$ [Hta Htb HO Hi0 Ho0 Hso0 Hr0 Hi1 Ho1 Hso1 Hr1 Hi2 Ho2 Hso2 Hr2 Hi3 Ho3 Hso3 Hr3 Hi4 Ho4 Hso4 Hr4 Hi5 Ho5 Hso5 Hr5 Hi6 Ho6 Hso6 Hr6 Hi7 Ho7 Hso7 Hr7]
  · unfold Ctx Lanes Lane0 Tables
    isplitl [Hta Htb HO]
    · isplitr; · iexact Hlv
      isplitl [Hta Htb]
      · isplitl [Hta] <;> iassumption
      · iexact HO
    isplitl [Hi0 Ho0 Hso0 Hr0]
    · isplitl [Hi0]; · iexact Hi0
      iapply (out_start d L A B t f)
      isplitl [Ho0]; · iexact Ho0
      isplitl [Hso0] <;> iassumption
    isplitl [Hi1 Ho1 Hso1 Hr1]
    · isplitl [Hi1]; · iexact Hi1
      iapply (out_start d L A B t f)
      isplitl [Ho1]; · iexact Ho1
      isplitl [Hso1] <;> iassumption
    isplitl [Hi2 Ho2 Hso2 Hr2]
    · isplitl [Hi2]; · iexact Hi2
      iapply (out_start d L A B t f)
      isplitl [Ho2]; · iexact Ho2
      isplitl [Hso2] <;> iassumption
    isplitl [Hi3 Ho3 Hso3 Hr3]
    · isplitl [Hi3]; · iexact Hi3
      iapply (out_start d L A B t f)
      isplitl [Ho3]; · iexact Ho3
      isplitl [Hso3] <;> iassumption
    isplitl [Hi4 Ho4 Hso4 Hr4]
    · isplitl [Hi4]; · iexact Hi4
      iapply (out_start d L A B t f)
      isplitl [Ho4]; · iexact Ho4
      isplitl [Hso4] <;> iassumption
    isplitl [Hi5 Ho5 Hso5 Hr5]
    · isplitl [Hi5]; · iexact Hi5
      iapply (out_start d L A B t f)
      isplitl [Ho5]; · iexact Ho5
      isplitl [Hso5] <;> iassumption
    isplitl [Hi6 Ho6 Hso6 Hr6]
    · isplitl [Hi6]; · iexact Hi6
      iapply (out_start d L A B t f)
      isplitl [Ho6]; · iexact Ho6
      isplitl [Hso6] <;> iassumption
    isplitl [Hi7]; · iexact Hi7
    iapply (out_start d L A B t f)
    isplitl [Ho7]; · iexact Ho7
    isplitl [Hso7] <;> iassumption
  iintro %acc ⟨HC, HL⟩
  ihave HL := (Entails.of_eq (show (Lanes d A B t L k0_t1_loop.trips : sProp (MT nD τ sig (HIx 1) (Elt F) ℕ UU ℕ)) = Lanes d A B t L 16 by
    rw [trips_outer])) $$ HL
  unfold Lanes
  icases HL with ⟨H0, H1, H2, H3, H4, H5, H6, H7⟩
  sl_step
  iapply (lane_last d (cV L) (jV L) A B t O W hO (b := 0) (by decide)) $$ [HC H0]
  · isplitl [HC] <;> iassumption
  iintro ⟨HC, ⟨Hi0, Hb0⟩, Ho0, Hr0⟩
  ihave Ho0 := (out_end d L A B t (w := pc L) (b := 0) (by decide)) $$ Ho0
  icases Ho0 with ⟨Ho0, Hso0⟩
  iapply (lane_last d (cV L) (jV L) A B t O W hO (b := 1) (by decide)) $$ [HC H1]
  · isplitl [HC] <;> iassumption
  iintro ⟨HC, ⟨Hi1, Hb1⟩, Ho1, Hr1⟩
  ihave Ho1 := (out_end d L A B t (w := pc L) (b := 1) (by decide)) $$ Ho1
  icases Ho1 with ⟨Ho1, Hso1⟩
  iapply (lane_last d (cV L) (jV L) A B t O W hO (b := 2) (by decide)) $$ [HC H2]
  · isplitl [HC] <;> iassumption
  iintro ⟨HC, ⟨Hi2, Hb2⟩, Ho2, Hr2⟩
  ihave Ho2 := (out_end d L A B t (w := pc L) (b := 2) (by decide)) $$ Ho2
  icases Ho2 with ⟨Ho2, Hso2⟩
  iapply (lane_last d (cV L) (jV L) A B t O W hO (b := 3) (by decide)) $$ [HC H3]
  · isplitl [HC] <;> iassumption
  iintro ⟨HC, ⟨Hi3, Hb3⟩, Ho3, Hr3⟩
  ihave Ho3 := (out_end d L A B t (w := pc L) (b := 3) (by decide)) $$ Ho3
  icases Ho3 with ⟨Ho3, Hso3⟩
  iapply (lane_last d (cV L) (jV L) A B t O W hO (b := 4) (by decide)) $$ [HC H4]
  · isplitl [HC] <;> iassumption
  iintro ⟨HC, ⟨Hi4, Hb4⟩, Ho4, Hr4⟩
  ihave Ho4 := (out_end d L A B t (w := pc L) (b := 4) (by decide)) $$ Ho4
  icases Ho4 with ⟨Ho4, Hso4⟩
  iapply (lane_last d (cV L) (jV L) A B t O W hO (b := 5) (by decide)) $$ [HC H5]
  · isplitl [HC] <;> iassumption
  iintro ⟨HC, ⟨Hi5, Hb5⟩, Ho5, Hr5⟩
  ihave Ho5 := (out_end d L A B t (w := pc L) (b := 5) (by decide)) $$ Ho5
  icases Ho5 with ⟨Ho5, Hso5⟩
  iapply (lane_last d (cV L) (jV L) A B t O W hO (b := 6) (by decide)) $$ [HC H6]
  · isplitl [HC] <;> iassumption
  iintro ⟨HC, ⟨Hi6, Hb6⟩, Ho6, Hr6⟩
  ihave Ho6 := (out_end d L A B t (w := pc L) (b := 6) (by decide)) $$ Ho6
  icases Ho6 with ⟨Ho6, Hso6⟩
  iapply (lane_last d (cV L) (jV L) A B t O W hO (b := 7) (by decide)) $$ [HC H7]
  · isplitl [HC] <;> iassumption
  iintro ⟨HC, ⟨Hi7, Hb7⟩, Ho7, Hr7⟩
  ihave Ho7 := (out_end d L A B t (w := pc L) (b := 7) (by decide)) $$ Ho7
  icases Ho7 with ⟨Ho7, Hso7⟩
  sl_step
  unfold Ctx Tables InIdle
  icases HC with ⟨-, ⟨Hta, Htb⟩, HO⟩
  icases Hi0 with ⟨Ht0, Hsi0⟩
  icases Hi1 with ⟨Ht1, Hsi1⟩
  icases Hi2 with ⟨Ht2, Hsi2⟩
  icases Hi3 with ⟨Ht3, Hsi3⟩
  icases Hi4 with ⟨Ht4, Hsi4⟩
  icases Hi5 with ⟨Ht5, Hsi5⟩
  icases Hi6 with ⟨Ht6, Hsi6⟩
  icases Hi7 with ⟨Ht7, Hsi7⟩
  isplitl [Ht0 Ht1 Ht2 Ht3 Ht4 Ht5 Ht6 Ht7 Ho0 Ho1 Ho2 Ho3 Ho4 Ho5 Ho6 Ho7 HA HB]
  · isplitl [Ht0 Ht1 Ht2 Ht3 Ht4 Ht5 Ht6 Ht7]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Ho0 Ho1 Ho2 Ho3 Ho4 Ho5 Ho6 Ho7]
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
    isplitl [HA] <;> iassumption
  isplitl [Hta Htb Hb0 Hb1 Hb2 Hb3 Hb4 Hb5 Hb6 Hb7 Hr0 Hr1 Hr2 Hr3 Hr4 Hr5 Hr6 Hr7 Hbufs]
  · isplitr [Hbufs]
    swap; · iexact Hbufs
    isplitl [Hta]; · iexists _; iexact Hta
    isplitl [Htb]; · iexists _; iexact Htb
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hsi0 Hsi1 Hsi2 Hsi3 Hsi4 Hsi5 Hsi6 Hsi7 Hso0 Hso1 Hso2 Hso3 Hso4 Hso5 Hso6 Hso7 Hs8 Hs9 Hsems]
  · isplitr [Hsems]
    swap; · iexact Hsems
    isplitl [Hsi0]; · iexact Hsi0
    isplitl [Hsi1]; · iexact Hsi1
    isplitl [Hsi2]; · iexact Hsi2
    isplitl [Hsi3]; · iexact Hsi3
    isplitl [Hsi4]; · iexact Hsi4
    isplitl [Hsi5]; · iexact Hsi5
    isplitl [Hsi6]; · iexact Hsi6
    isplitl [Hsi7]; · iexact Hsi7
    isplitl [Hso0]; · iexact Hso0
    isplitl [Hso1]; · iexact Hso1
    isplitl [Hso2]; · iexact Hso2
    isplitl [Hso3]; · iexact Hso3
    isplitl [Hso4]; · iexact Hso4
    isplitl [Hso5]; · iexact Hso5
    isplitl [Hso6]; · iexact Hso6
    isplitl [Hso7]; · iexact Hso7
    isplitl [Hs8]; · iexact Hs8
    iexact Hs9
  unfold Ow
  iexact HO

end Cert.Proof.Plf

end
-- ==== Proof.Host.lean ====
/-
  What @main computes before the kernel's call: from the knots, the increments' parameters and the first slope, the
  slope of every segment, the function's value at every knot, and the two tables that the kernel reads.
-/
module

public import proofs.«01_k».proof.Proof.Setup

@[expose] public section

noncomputable section

namespace Cert.Proof.Plf

open Cert.KernelIdeal Cert.KernelIdeal.Gen

open Idealize.ShloMosaic Idealize.ShloMosaic.StableHlo
open Idealize.SL Idealize.SL.Sem

variable {F : FTy → Type} [FloatOps F]

/-! ## The values -/

/-- One element put before thirty-two. -/
def joinV : FVec F S1 .f32 → FVec F S32 .f32 → FVec F S33 .f32 :=
  fun a b => concatenate S33 0 [⟨S1, a⟩, ⟨S32, b⟩] concatenates_S1_S32_S33_d0

/-- The running sums. -/
def cumV (v : FVec F S33 .f32) : FVec F S33 .f32 :=
  Host.reduceWindowAdd ![33] ![1] ![32] ![0] v (broadcastInDim S_ ![] bcast_S_S_ (constant S_ .f32 0x00000000#32))
    reduceWindows_S33_S33_w33s1p32_0 h_S_

/-- Every element but the last. -/
def initV (v : FVec F S33 .f32) : FVec F S32 .f32 := extractStridedSlice S32 ![0] v slices_S33_S32_0
/-- Every element but the first. -/
def tailV (v : FVec F S33 .f32) : FVec F S32 .f32 := extractStridedSlice S32 ![1] v slices_S33_S32_1

/-- Zero, thirty-two times. -/
abbrev zerosV : FVec F S32 .f32 := broadcastInDim S32 ![] bcast_S_S32 (constant S_ .f32 0x00000000#32)

/-- The softplus of every parameter. -/
def softplusV (th : FVec F S32 .f32) : FVec F S32 .f32 :=
  select (cmpf .une (subf th zerosV) (subf th zerosV)) (addf th zerosV)
    (addf (maximumf th zerosV) (Host.log1p (Host.exp (Host.negf (Host.absf (subf th zerosV))))))

/-- The slopes: the first, and each further one more by its increment. -/
def slopesV (th : FVec F S32 .f32) (s0 : FVec F S_ .f32) : FVec F S33 .f32 :=
  cumV (joinV (broadcastInDim S1 ![] bcast_S_S1 s0)
    (addf (softplusV th) (broadcastInDim S32 ![] bcast_S_S32 (constant S_ .f32 0x38D1B717#32))))

/-- The values at the knots, from zero at the first. -/
def knotsV (x : FVec F S33 .f32) (th : FVec F S32 .f32) (s0 : FVec F S_ .f32) : FVec F S33 .f32 :=
  cumV (joinV (broadcastInDim S1 ![] bcast_S_S1 (constant S_ .f32 0x00000000#32))
    (mulf (initV (slopesV th s0)) (subf (tailV x) (initV x))))

/-- The table of slopes. -/
def tabB (th : FVec F S32 .f32) (s0 : FVec F S_ .f32) : FVec F S32 .f32 := initV (slopesV th s0)
/-- The table of offsets. -/
def tabA (x : FVec F S33 .f32) (th : FVec F S32 .f32) (s0 : FVec F S_ .f32) : FVec F S32 .f32 :=
  subf (initV (knotsV x th s0)) (mulf (initV (slopesV th s0)) (initV x))

/-! ## The operations -/

/-- The operations before the call, in order. -/
abbrev preOps : List (HloOp τ sig (Elt F)) :=
  [ TRef.nullary main_call0.cst (constant S_ .f32 0x00000000#32),
    TRef.unary main_call0.cst main_call0.v0 (broadcastInDim S32 ![] bcast_S_S32),
    TRef.binary (.of main_arg2) main_call0.v0 main_call0.v1 maximumf,
    TRef.unary main_call0.cst main_call0.v2 (broadcastInDim S32 ![] bcast_S_S32),
    TRef.binary (.of main_arg2) main_call0.v2 main_call0.v3 subf,
    TRef.binary main_call0.v3 main_call0.v3 main_call0.v4 (cmpf .une),
    TRef.unary main_call0.cst main_call0.v5 (broadcastInDim S32 ![] bcast_S_S32),
    TRef.binary (.of main_arg2) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst (constant S_ .f32 0x38D1B717#32),
    unary main_cst main_v1 (broadcastInDim S32 ![] bcast_S_S32 : FVec F S_ .f32 → FVec F S32 .f32),
    binary main_v0 main_v1 main_v2 (addf : FVec F S32 .f32 → FVec F S32 .f32 → FVec F S32 .f32),
    unary main_arg3 main_v3 (broadcastInDim S1 ![] bcast_S_S1 : FVec F S_ .f32 → FVec F S1 .f32),
    binary main_v3 main_v2 main_v4 (joinV (F := F)),
    TRef.nullary main_call1_call0.cst (constant S_ .f32 0x00000000#32),
    TRef.unary main_call1_call0.cst main_call1_call0.v0 (broadcastInDim S_ ![] bcast_S_S_),
    TRef.binary (.of main_v4) main_call1_call0.v0 main_call1_call0.v1
      (fun x v => Host.reduceWindowAdd ![33] ![1] ![32] ![0] x v reduceWindows_S33_S33_w33s1p32_0 h_S_),
    nullary main_cst_0 (constant S_ .f32 0x00000000#32),
    unary main_cst_0 main_v6 (broadcastInDim S1 ![] bcast_S_S1 : FVec F S_ .f32 → FVec F S1 .f32),
    unary main_v5 main_v7 (initV (F := F)),
    TRef.unary (.of main_arg1) main_call2.v0 (tailV (F := F)),
    TRef.unary (.of main_arg1) main_call2.v1 (initV (F := F)),
    TRef.binary main_call2.v0 main_call2.v1 main_call2.v2 subf,
    binary main_v7 main_v8 main_v9 (mulf : FVec F S32 .f32 → FVec F S32 .f32 → FVec F S32 .f32),
    binary main_v6 main_v9 main_v10 (joinV (F := F)),
    TRef.nullary main_call3_call0.cst (constant S_ .f32 0x00000000#32),
    TRef.unary main_call3_call0.cst main_call3_call0.v0 (broadcastInDim S_ ![] bcast_S_S_),
    TRef.binary (.of main_v10) main_call3_call0.v0 main_call3_call0.v1
      (fun x v => Host.reduceWindowAdd ![33] ![1] ![32] ![0] x v reduceWindows_S33_S33_w33s1p32_0 h_S_),
    unary main_v11 main_v12 (initV (F := F)),
    unary main_v5 main_v13 (initV (F := F)),
    unary main_arg1 main_v14 (initV (F := F)),
    binary main_v13 main_v14 main_v15 (mulf : FVec F S32 .f32 → FVec F S32 .f32 → FVec F S32 .f32),
    binary main_v12 main_v15 main_v16 (subf : FVec F S32 .f32 → FVec F S32 .f32 → FVec F S32 .f32),
    unary main_v5 main_v17 (initV (F := F)) ]

set_option maxRecDepth 8192 in
/-- @main: the operations, then the call. -/
theorem main_eq (d : Dev nD) : main (F := F) d = (seq preOps >>= fun _ => sc.run d 0 >>= fun _ => pure ⟨⟩) := rfl

set_option maxRecDepth 8192 in
theorem preOps_sub : ∀ op ∈ (preOps : List (HloOp τ sig (Elt F))), op.bufs ⊆ tcRefs τ sig := by
  have h : (preOps : List (HloOp τ sig (Elt F))).Forall fun op => op.bufs ⊆ tcRefs τ sig :=
    ⟨nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., unary_bufs_sub .., unary_bufs_sub .., unary_bufs_sub .., binary_bufs_sub ..,
    binary_bufs_sub .., binary_bufs_sub .., nullary_bufs_sub .., unary_bufs_sub .., binary_bufs_sub .., unary_bufs_sub ..,
    unary_bufs_sub .., unary_bufs_sub .., binary_bufs_sub .., binary_bufs_sub .., unary_bufs_sub ..⟩
  exact List.forall_iff_forall_mem.mp h

theorem preOps_fresh : ∀ op ∈ (preOps : List (HloOp τ sig (Elt F))), op.fresh = ∅ := by
  intro _ h
  (repeat (cases h with | head => rfl | tail _ h => ?_)); exact nomatch h

variable (W : Valuation τ sig (Elt F))

set_option maxRecDepth 8192 in
set_option maxHeartbeats 8000000 in
theorem after_arg0 : after preOps W (Proc.devRef .tc main_arg0) = W (Proc.devRef .tc main_arg0) := by
  simp only [preOps, TRef.binary, TRef.nullary, TRef.ternary, TRef.unary, TRef.toBuf, TRef.ofBuf, cast_eq]; after_results_simp <;> rfl
set_option maxRecDepth 8192 in
set_option maxHeartbeats 8000000 in
theorem after_arg1 : after preOps W (Proc.devRef .tc main_arg1) = W (Proc.devRef .tc main_arg1) := by
  simp only [preOps, TRef.binary, TRef.nullary, TRef.ternary, TRef.unary, TRef.toBuf, TRef.ofBuf, cast_eq]; after_results_simp <;> rfl
set_option maxRecDepth 8192 in
set_option maxHeartbeats 8000000 in
theorem after_arg2 : after preOps W (Proc.devRef .tc main_arg2) = W (Proc.devRef .tc main_arg2) := by
  simp only [preOps, TRef.binary, TRef.nullary, TRef.ternary, TRef.unary, TRef.toBuf, TRef.ofBuf, cast_eq]; after_results_simp <;> rfl
set_option maxRecDepth 8192 in
set_option maxHeartbeats 8000000 in
theorem after_arg3 : after preOps W (Proc.devRef .tc main_arg3) = W (Proc.devRef .tc main_arg3) := by
  simp only [preOps, TRef.binary, TRef.nullary, TRef.ternary, TRef.unary, TRef.toBuf, TRef.ofBuf, cast_eq]; after_results_simp <;> rfl

set_option maxRecDepth 8192 in
set_option maxHeartbeats 8000000 in
theorem after_v18 : after preOps W (Proc.devRef .tc main_v18) = W (Proc.devRef .tc main_v18) := by
  simp only [preOps, TRef.binary, TRef.nullary, TRef.ternary, TRef.unary, TRef.toBuf, TRef.ofBuf, cast_eq]; after_results_simp <;> rfl

set_option maxRecDepth 8192 in
set_option maxHeartbeats 16000000 in
theorem after_b : after preOps W (Proc.devRef .tc main_v17) = tabB (W (Proc.devRef .tc main_arg2)) (W (Proc.devRef .tc main_arg3)) := by
  simp only [preOps, TRef.binary, TRef.nullary, TRef.ternary, TRef.unary, TRef.toBuf, TRef.ofBuf, cast_eq]; after_results_simp <;> rfl

set_option maxRecDepth 8192 in
set_option maxHeartbeats 16000000 in
theorem after_a : after preOps W (Proc.devRef .tc main_v16)
    = tabA (W (Proc.devRef .tc main_arg1)) (W (Proc.devRef .tc main_arg2)) (W (Proc.devRef .tc main_arg3)) := by
  simp only [preOps, TRef.binary, TRef.nullary, TRef.ternary, TRef.unary, TRef.toBuf, TRef.ofBuf, cast_eq]; after_results_simp <;> rfl

end Cert.Proof.Plf

end
-- ==== Proof.Launch.lean ====
/-
  The run of the whole program: the tables are computed on the host, each subcore is handed its piece of the two long
  arrays and a thirty-second share of each table, and what comes back is put together.
-/
module

public import proofs.«01_k».proof.Proof.Tile
public import proofs.«01_k».proof.Proof.Host

@[expose] public section

noncomputable section

namespace Cert.Proof.Plf

open Cert.KernelIdeal Cert.KernelIdeal.Gen

open Idealize.ShloMosaic Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Shares: the full share halved five times -/

/-- Share `i` of the `2 ^ n` that `q` halves into. -/
def part : (n : ℕ) → PosShare TreeShare → ℕ → PosShare TreeShare
  | 0, q, _ => q
  | n + 1, q, i => part n (if i % 2 = 0 then q.left else q.right) (i / 2)

/-- Even and odd numbers below `2 ^ (n + 1)`. -/
def parity (n : ℕ) : Fin (2 ^ n) × Fin 2 ≃ Fin (2 ^ (n + 1)) := finProdFinEquiv.trans (finCongr (by rw [pow_succ]))

theorem parity_val (n : ℕ) (p : Fin (2 ^ n) × Fin 2) : (parity n p).val = p.2.val + 2 * p.1.val := rfl

/-- An array held at a share is held at its parts at once. -/
theorem pointsTo_parts {ℓ : Loc nD τ sig} (f : Buf (Elt F) ℓ) : ∀ (n : ℕ) (q : PosShare TreeShare),
    (ℓ ↦{q} f : sProp 𝕄) = bigSep Finset.univ fun i : Fin (2 ^ n) => ℓ ↦{part n q i.val} f
  | 0, q => (bigSep_univ_of_subsingleton (0 : Fin 1) (Φ := fun i : Fin (2 ^ 0) => (ℓ ↦{part 0 q i.val} f : sProp 𝕄))).symm
  | n + 1, q => by
    rw [bigSep_univ_equiv (parity n) (fun i : Fin (2 ^ (n + 1)) => (ℓ ↦{part (n + 1) q i.val} f : sProp 𝕄)), bigSep_univ_prod,
      BI.Entails.antisymm (pointsTo_share (PosShare.mem_left_op_right q)).1 (pointsTo_share (PosShare.mem_left_op_right q)).2,
      pointsTo_parts f n q.left, pointsTo_parts f n q.right, ← bigSep_sep']
    refine bigSep_congr fun i _ => ?_
    rw [bigSep_fin_two]
    have e0 : part (n + 1) q (parity n (i, 0)).val = part n q.left i.val := by
      rw [parity_val, part]; congr 1 <;> simp <;> omega
    have e1 : part (n + 1) q (parity n (i, 1)).val = part n q.right i.val := by
      rw [parity_val, part]; congr 1 <;> simp <;> omega
    rw [e0, e1]
    rfl

variable [FloatOps F]

variable (m : (ℓ : Loc nD τ sig) → Buf (Elt F) ℓ) (ρ : Dev nD → PrngReg)

/-! ## What the handshakes carry -/

abbrev xLoc (d : Dev nD) : Loc nD τ sig := (SparseCore.T d).loc main_arg1
abbrev thLoc (d : Dev nD) : Loc nD τ sig := (SparseCore.T d).loc main_arg2
abbrev s0Loc (d : Dev nD) : Loc nD τ sig := (SparseCore.T d).loc main_arg3

/-- The table of offsets and the table of slopes on device `d`. -/
def mA (d : Dev nD) : FVec F S32 .f32 := tabA (m (xLoc d)) (m (thLoc d)) (m (s0Loc d))
def mB (d : Dev nD) : FVec F S32 .f32 := tabB (m (thLoc d)) (m (s0Loc d))

/-- What subcore `w` of the thirty-two is handed, with the result's array at `f`. -/
abbrev Piece32 (d : Dev nD) (f : Buf (Elt F) (oLoc d)) (w : ℕ) : sProp 𝕄 :=
  Handed d (mA m d) (mB m d) (m (tLoc d)) w (part 5 fullShare w) f

/-- The result. -/
abbrev mOut (d : Dev nD) : Buf (Elt F) (oLoc d) := outV (mA m d) (mB m d) (m (tLoc d))

/-- The sixteen subcores of core `c`. -/
abbrev Core16 (d : Dev nD) (f : Buf (Elt F) (oLoc d)) (c : ℕ) : sProp 𝕄 :=
  bigSep Finset.univ fun i : Fin ((K (F := F)).nSub 0) => Piece32 m d f (2 * i.val + c)

instance (d : Dev nD) (f : Buf (Elt F) (oLoc d)) (w : ℕ) : BI.Storable (upEmb : UEmb _ 𝕄) (Piece32 m d f w) := by
  unfold Piece32 Handed; infer_instance

def P : (K (F := F)).Pay (nD := nD) (Val := Elt F) (Name := ℕ) (U := UU) where
  st := fun q d c => match q with | 0 => Core16 m d (m (oLoc d)) c.val
  dn := fun q d c => match q with | 0 => Core16 m d (mOut m d) c.val
  go := fun q d c i => match q with | 0 => Piece32 m d (m (oLoc d)) (2 * i.val + c.val)
  td := fun q d c i => match q with | 0 => Piece32 m d (mOut m d) (2 * i.val + c.val)
  x := fun _ _ => iprop(emp)

instance P_storable : (P (F := F) m).IsStorable where
  st q d c := match q with
    | 0 => (inferInstance : BI.Storable (upEmb : UEmb _ 𝕄) (Core16 m d (m (oLoc d)) c.val))
  dn q d c := match q with
    | 0 => (inferInstance : BI.Storable (upEmb : UEmb _ 𝕄) (Core16 m d (mOut m d) c.val))
  go q d c i := match q with
    | 0 => (inferInstance : BI.Storable (upEmb : UEmb _ 𝕄) (Piece32 m d (m (oLoc d)) (2 * i.val + c.val)))
  td q d c i := match q with
    | 0 => (inferInstance : BI.Storable (upEmb : UEmb _ 𝕄) (Piece32 m d (mOut m d) (2 * i.val + c.val)))

/-! ## One task -/

def coordsV (c : Fin (grid0.bound 0)) (s : Fin (grid0.bound 1)) : grid0.Coords := fun | 0 => c | 1 => s | ⟨_ + 2, h⟩ => absurd h (Nat.not_lt.2 (Nat.le_add_left _ _))

omit [FloatOps F] in
/-- A task's waits are none, or this call's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    intro p hp
    rcases hW' p hp with h | h
    · exact Or.inl h
    · exact Or.inr (Or.inl h)
  iexact HO

set_option maxRecDepth 65536 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hprog : defs₀ (F := F) (.scVector ((K (F := F)).core 0 c) ((K (F := F)).sub 0 i)) 0 ()
      = SparseCore.onTile hcore0 hsub0 (fun c s => cc0__plf_body (F := F) (coordsV c s)
            tV (Memref.isWhole_whole _) aV (Memref.isWhole_whole _) bV (Memref.isWhole_whole _) oV
            (Memref.isWhole_whole _) (Memref.whole cc0_scratch0) (Memref.isWhole_whole _) (Memref.whole cc0_scratch1)
            (Memref.isWhole_whole _) (Memref.whole cc0_scratch2) (Memref.isWhole_whole _) (Memref.whole cc0_scratch3)
            (Memref.isWhole_whole _) (Memref.whole cc0_scratch4) (Memref.isWhole_whole _) (Memref.whole cc0_scratch5)
            (Memref.isWhole_whole _) (Memref.whole cc0_scratch6) (Memref.isWhole_whole _) (Memref.whole cc0_scratch7)
            (Memref.isWhole_whole _) (Memref.whole cc0_scratch8) (Memref.isWhole_whole _) (Memref.whole cc0_scratch9)
            (Memref.isWhole_whole _) (Memref.whole cc0_scratch10) (Memref.isWhole_whole _)
            (Memref.whole cc0_scratch11) (Memref.isWhole_whole _) (Memref.whole cc0_scratch12)
            (Memref.isWhole_whole _) (Memref.whole cc0_scratch13) (Memref.isWhole_whole _)
            (Memref.whole cc0_scratch14) (Memref.isWhole_whole _) (Memref.whole cc0_scratch15)
            (Memref.isWhole_whole _) (Memref.whole cc0_scratch16) (Memref.isWhole_whole _)
            (Memref.whole cc0_scratch17) (Memref.isWhole_whole _)
            cc0_scratch18 cc0_scratch19 cc0_scratch20 cc0_scratch21 cc0_scratch22 cc0_scratch23 cc0_scratch24
            cc0_scratch25 cc0_scratch26 cc0_scratch27 cc0_scratch28 cc0_scratch29 cc0_scratch30 cc0_scratch31
            cc0_scratch32 cc0_scratch33 cc0_scoped0 cc0_scoped1) ⟨⟩ ((K (F := F)).core 0 c) ((K (F := F)).sub 0 i) := rfl
  rw [hprog]; simp only [SparseCore.onTile, hci, and_self, ↓reduceDIte]
  exact (tile_body d (coordsV ⟨_, hci.1⟩ ⟨_, hci.2⟩) hF (mA m d) (mB m d) (m (tLoc d)) _ (m (oLoc d)) O W hO).trans
    (wp_mono frame _ _ fun _ => waits_weaken)

theorem vecSplit : (K (F := F)).VecSplit' (P m) 0 := by
  intro d c
  show Core16 m d (m (oLoc d)) c.val ⊢ |={Set.univ}=> iprop(
      Core16 m d (m (oLoc d)) c.val ∗ (Core16 m d (mOut m d) c.val -∗ Core16 m d (mOut m d) c.val))
  iintro H; imodintro
  isplitl [H]; · iexact H
  iintro H; iexact H

/-! ## All the pieces -/

/-- Core `c` and subcore `i` have piece `2 i + c`. -/
def pieceEquiv : Fin 16 × Fin 2 ≃ Fin (2 ^ 5) := parity 4

theorem pieces_disjoint : ∀ i ∈ (Finset.univ : Finset (Fin (2 ^ 5))), ∀ j ∈ (Finset.univ : Finset (Fin (2 ^ 5))), i ≠ j → Disjoint (Piece i.val) (Piece j.val) := by
  intro i _ j _ hij
  rw [Finset.disjoint_left]
  intro k hi hj
  rw [mem_Piece] at hi hj
  exact hij (Fin.ext (hi.symm.trans hj))

theorem pieces_cover : (Finset.univ : Finset (Fin (2 ^ 5))).biUnion (fun w => Piece w.val) = Finset.univ := by
  ext k
  simp only [Finset.mem_biUnion, Finset.mem_univ, true_and, iff_true]
  have h : (k 0).val < 16777216 := (k 0).isLt
  exact ⟨⟨(k 0).val / 524288, by omega⟩, mem_Piece.mpr rfl⟩

omit [FloatOps F] in
theorem t_pieces (d : Dev nD) (f : Buf (Elt F) (tLoc d)) :
    (tLoc d ↦{fullShare} f : sProp 𝕄) = bigSep Finset.univ fun w : Fin (2 ^ 5) => tLoc d ↦[Piece w.val]{fullShare} f := by
  rw [← pointsTo_biUnion Finset.univ (ℓ := tLoc d) (fun w : Fin (2 ^ 5) => Piece w.val) pieces_disjoint, pieces_cover]; try rfl

omit [FloatOps F] in
theorem o_pieces (d : Dev nD) (f : Buf (Elt F) (oLoc d)) :
    (oLoc d ↦{fullShare} f : sProp 𝕄) = bigSep Finset.univ fun w : Fin (2 ^ 5) => oLoc d ↦[Piece w.val]{fullShare} f := by
  rw [← pointsTo_biUnion Finset.univ (ℓ := oLoc d) (fun w : Fin (2 ^ 5) => Piece w.val) pieces_disjoint, pieces_cover]; try rfl

theorem st_eq (d : Dev nD) : (bigSep Finset.univ fun c : Fin ((K (F := F)).nCore 0) => (P m).st 0 d c)
    = bigSep Finset.univ fun c : Fin ((K (F := F)).nCore 0) => Core16 m d (m (oLoc d)) c.val := rfl
theorem dn_eq (d : Dev nD) : (bigSep Finset.univ fun c : Fin ((K (F := F)).nCore 0) => (P m).dn 0 d c)
    = bigSep Finset.univ fun c : Fin ((K (F := F)).nCore 0) => Core16 m d (mOut m d) c.val := rfl

/-- The four arrays whole are what the two cores are handed. -/
theorem cores_eq (d : Dev nD) (f : Buf (Elt F) (oLoc d)) :
    (bigSep Finset.univ fun c : Fin ((K (F := F)).nCore 0) => Core16 m d f c.val)
      = (iprop((tLoc d ↦{fullShare} m (tLoc d)) ∗ (oLoc d ↦{fullShare} f) ∗ (aLoc d ↦{fullShare} mA m d) ∗ (bLoc d ↦{fullShare} mB m d)) : sProp 𝕄) := by
  rw [t_pieces, o_pieces, pointsTo_parts (ℓ := aLoc d) (mA m d) 5 fullShare, pointsTo_parts (ℓ := bLoc d) (mB m d) 5 fullShare,
    ← bigSep_sep', ← bigSep_sep', ← bigSep_sep']
  show (bigSep Finset.univ fun c : Fin 2 => bigSep Finset.univ fun i : Fin 16 => Piece32 m d f (2 * i.val + c.val))
    = bigSep Finset.univ fun w : Fin (2 ^ 5) => Piece32 m d f w.val
  rw [bigSep_univ_equiv ((Equiv.prodComm (Fin 2) (Fin 16)).trans pieceEquiv) (fun w : Fin (2 ^ 5) => Piece32 m d f w.val), bigSep_univ_prod]
  refine bigSep_congr fun c _ => bigSep_congr fun i _ => ?_
  rw [show (((Equiv.prodComm (Fin 2) (Fin 16)).trans pieceEquiv) (c, i)).val = c.val + 2 * i.val from rfl, add_comm]

/-! ## The launch's own tokens -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

/-- The arrays' contents at the launch. -/
abbrev V0 (d : Dev nD) : Valuation τ sig (Elt F) := fun b => m (d, b)

abbrev Href (r : Ref sig .tc) : DevRef τ sig := Proc.devRef .tc r

/-- The arrays that the run's account names. -/
abbrev Named : Finset (DevRef τ sig) :=
  {Href main_arg0, Href main_v18, Href main_v16, Href main_v17, Href main_arg1, Href main_arg2, Href main_arg3}

theorem named_sub : Named ⊆ tcRefs τ sig := by
  intro b hb
  simp only [Named, Finset.mem_insert, Finset.mem_singleton] at hb
  rcases hb with h | h | h | h | h | h | h <;> (rw [h]; exact devRef_mem_tcRefs _)

omit [FloatOps F] in
theorem held_named (d : Dev nD) (W : Valuation τ sig (Elt F)) :
    (held (T d) Named W : sProp 𝕄)
      = iprop((tLoc d ↦{fullShare} W (Href main_arg0)) ∗ (oLoc d ↦{fullShare} W (Href main_v18)) ∗ (aLoc d ↦{fullShare} W (Href main_v16))
          ∗ (bLoc d ↦{fullShare} W (Href main_v17)) ∗ (xLoc d ↦{fullShare} W (Href main_arg1)) ∗ (thLoc d ↦{fullShare} W (Href main_arg2))
          ∗ (s0Loc d ↦{fullShare} W (Href main_arg3))) := by
  unfold held Named
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem after_out (W : Valuation τ sig (Elt F)) : after preOps W (Href main_v18) = W (Href main_v18) := after_v18 W

theorem unscoped_held (d : Dev nD) : (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

/-- What @main leaves: the arguments as they were, the result at its value. -/
abbrev FIN (d : Dev nD) : sProp 𝕄 :=
  iprop((tLoc d ↦{fullShare} m (tLoc d)) ∗ (oLoc d ↦{fullShare} mOut m d) ∗ (xLoc d ↦{fullShare} m (xLoc d))
    ∗ (thLoc d ↦{fullShare} m (thLoc d)) ∗ (s0Loc d ↦{fullShare} m (s0Loc d)))

/-- After the operations: the arguments and the result's array as they were, the two tables at their values. -/
theorem held_after (d : Dev nD) :
    (held (T d) (tcRefs τ sig) (after preOps (V0 m d)) : sProp 𝕄)
      ⊢ iprop(((tLoc d ↦{fullShare} m (tLoc d)) ∗ (oLoc d ↦{fullShare} m (oLoc d)) ∗ (aLoc d ↦{fullShare} mA m d) ∗ (bLoc d ↦{fullShare} mB m d))
          ∗ (xLoc d ↦{fullShare} m (xLoc d)) ∗ (thLoc d ↦{fullShare} m (thLoc d)) ∗ (s0Loc d ↦{fullShare} m (s0Loc d))) := by
  rw [held_sub_split (T d) named_sub, held_named, after_arg0, after_arg1, after_arg2, after_arg3, after_out, after_a, after_b]
  iintro ⟨⟨H1, H2, H3, H4, H5⟩, -⟩
  isplitr [H5]
  · isplitl [H1]; · iexact H1
    isplitl [H2]; · iexact H2
    isplitl [H3]; · iexact H3
    iexact H4
  iexact H5

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) (fun _ => sc.run d 0 >>= fun _ => pure ⟨⟩) preOps preOps_sub preOps_fresh (V0 m d)) $$ [Hb Hheld]
  · isplitl [Hb] <;> iassumption
  iintro ⟨Hb, Hheld⟩
  ihave Hh := (held_after m d) $$ Hheld
  icases Hh with ⟨Hin, Hargs⟩
  rw [wp_bind]
  iapply ((K (F := F)).wp_run (D (F := F)) 𝒱 (EH := EH) (P := P m) κ d 0) $$ [Hst Hin Hb Hargs Hts]
  isplitr; · iexact Hctx
  isplitl [Hst]; · iexact Hst
  isplitl [Hin]
  · iapply (Entails.of_eq ((st_eq m d).trans (cores_eq m d (m (oLoc d)))).symm); iexact Hin
  iintro ⟨Hst, Hdn⟩
  ihave Hdn' := (Entails.of_eq ((dn_eq m d).trans (cores_eq m d (mOut m d)))) $$ Hdn
  icases Hdn' with ⟨Ht, Ho, -, -⟩
  icases Hargs with ⟨Hx, Hth, Hs⟩
  rw [wp_pure]
  imodintro
  isplitl [Hst]; · iexact Hst
  isplitr [Hb Hts]
  · isplitl [Ht]; · iexact Ht
    isplitl [Ho]; · iexact Ho
    isplitl [Hx]; · iexact Hx
    isplitl [Hth]; · iexact Hth
    iexact Hs
  isplitl [Hb] <;> iassumption

/-! ## The final memory -/

def fq (d : Dev nD) (s' : Phys nD τ sig (Elt F)) : Prop :=
  s'.mem.mem (tLoc d) = m (tLoc d) ∧ s'.mem.mem (oLoc d) = mOut m d ∧ s'.mem.mem (xLoc d) = m (xLoc d)
    ∧ s'.mem.mem (thLoc d) = m (thLoc d) ∧ s'.mem.mem (s0Loc d) = m (s0Loc d)

omit [FloatOps F] in
/-- An array held whole is what the memory has there. -/
theorem mem_of_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Ht, Ho, Hx, Hth, Hs⟩, HSI⟩
  ihave H := (mem_of_held s' _ _) $$ [Ht HSI]
  · isplitl [Ht] <;> iassumption
  icases H with ⟨%h1, HSI⟩
  ihave H := (mem_of_held s' _ _) $$ [Ho HSI]
  · isplitl [Ho] <;> iassumption
  icases H with ⟨%h2, HSI⟩
  ihave H := (mem_of_held s' _ _) $$ [Hx HSI]
  · isplitl [Hx] <;> iassumption
  icases H with ⟨%h3, HSI⟩
  ihave H := (mem_of_held s' _ _) $$ [Hth HSI]
  · isplitl [Hth] <;> iassumption
  icases H with ⟨%h4, HSI⟩
  ihave H := (mem_of_held s' _ _) $$ [Hs HSI]
  · isplitl [Hs] <;> iassumption
  icases H with ⟨%h5, -⟩
  ipureintro
  exact ⟨h1, h2, h3, h4, h5⟩

/-- The run's account: the arguments unchanged, the result at its value, every counter at zero. -/
def QC : PUnit × MemSt nD τ sig (Elt F) → Prop := fun r =>
  (∀ d : Dev nD, r.2.mem (tLoc d) = m (tLoc d) ∧ r.2.mem (oLoc d) = mOut m d ∧ r.2.mem (xLoc d) = m (xLoc d)
    ∧ r.2.mem (thLoc d) = m (thLoc d) ∧ r.2.mem (s0Loc d) = m (s0Loc d)) ∧ r.2.sem = fun _ => 0

/-- Every run of the program, over any float values, ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Plf

end
-- ==== Proof.Frames.lean ====
/-
  The frames: every run ends, with the arguments as they were and every counter at zero. The kernel's are its run with
  the values dropped, read over either kind of float values; the reference is a line of host operations.
-/
module

public import proofs.«01_k».proof.Proof.Launch
public import proofs.«01_k».proof.Proof.Gen.Kernel
public import proofs.«01_k».proof.Proof.Gen.Pre_uniform_grid
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ =>
  (θ_run Cert.KernelIdeal.defs _ _).mono
    (fun _ h => ⟨fun c => ⟨(h.1 c).1, (h.1 c).2.2.1, (h.1 c).2.2.2.1, (h.1 c).2.2.2.2⟩, h.2⟩) (Plf.run_main (F := Bits) m ρ)

/-- The idealized kernel's run, the value dropped. -/
theorem kernel_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (fun r =>
      (∀ c : Dev Cert.KernelIdeal.nD, r.2.mem (Plf.tLoc c) = m (Plf.tLoc c) ∧ r.2.mem (Plf.xLoc c) = m (Plf.xLoc c)
        ∧ r.2.mem (Plf.thLoc c) = m (Plf.thLoc c) ∧ r.2.mem (Plf.s0Loc c) = m (Plf.s0Loc c)) ∧ r.2.sem = fun _ => 0) :=
  (θ_run Cert.KernelIdeal.defs _ _).mono
    (fun _ h => ⟨fun c => ⟨(h.1 c).1, (h.1 c).2.2.1, (h.1 c).2.2.2.1, (h.1 c).2.2.2.2⟩, h.2⟩) (Plf.run_main (F := Ideal) m ρ)

theorem frame_ideal : Cert.quiescent_KernelIdeal (hKernelIdeal := Cert.KernelIdeal.Gen.facts) := fun m ρ _ => kernel_ideal m ρ

theorem frame_ideal_pre : Cert.quiescent_KernelIdeal_pre_uniform_grid (hKernelIdeal := Cert.KernelIdeal.Gen.facts)
    (hPre_uniform_grid := Cert.Pre_uniform_grid.Gen.facts) := fun m ρ _ => kernel_ideal m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_uniform_grid (hReferenceIdeal := Cert.ReferenceIdeal.Gen.facts)
    (hPre_uniform_grid := Cert.Pre_uniform_grid.Gen.facts) := fun m ρ _ => frame_reference m ρ trivial

end Cert.Proof

end
-- ==== Proof.Sums.lean ====
/-
  Host operations at the extended reals, read at an index: the running sums, the joined vectors, the slices, and the
  softplus, which of a finite number is finite.
-/
module

public import proofs.«01_k».proof.Proof.Host
public import Idealize.ShloMosaic.Lib.Routing.Ops
public import Idealize.ShloMosaic.Lib.IdealHost
public import Idealize.ShloMosaic.Lib.Pointwise.SelectCore

@[expose] public section

noncomputable section

namespace Cert.Proof.Plf

open Cert.KernelIdeal Cert.KernelIdeal.Gen

open Idealize.ShloMosaic hiding ix0 ix1 ix2
open Idealize.ShloMosaic.ValueIdx

/-! ## Sums -/

/-- A left fold of an addition over a list is the start and the list's sum. -/
theorem foldl_add {ι : Type} {M : Type} [AddCommMonoid M] (f : ι → M) :
    ∀ (l : List ι) (a : M), l.foldl (fun r n => r + f n) a = a + (l.map f).sum
  | [], a => by simp
  | b :: l, a => by rw [List.foldl_cons, foldl_add f l, List.map_cons, List.sum_cons, add_assoc]

/-- A sum that a window of thirty-three places, ending at place `j`, takes: what lies before the vector is zero. -/
theorem window_sum {M : Type} [AddCommMonoid M] (f : ℕ → M) (j : ℕ) (hj : j < 33) :
    (∑ n : Fin 33, if 32 ≤ j + n.val then f (j + n.val - 32) else 0) = ∑ i ∈ Finset.range (j + 1), f i := by
  rw [Fin.sum_univ_eq_sum_range (fun n => if 32 ≤ j + n then f (j + n - 32) else 0) 33, ← Finset.sum_filter]
  refine Finset.sum_nbij' (fun n => j + n - 32) (fun i => i + 32 - j) ?_ ?_ ?_ ?_ ?_
  all_goals intro a ha; simp only [Finset.mem_filter, Finset.mem_range] at ha ⊢
  all_goals omega

/-- The sum of reals, as an extended real, term by term. -/
theorem coe_sum_range (r : ℕ → ℝ) (n : ℕ) :
    ((∑ i ∈ Finset.range n, r i : ℝ) : EReal) = ∑ i ∈ Finset.range n, (r i : EReal) := by
  induction n with
  | zero => simp
  | succ n ih => rw [Finset.sum_range_succ, Finset.sum_range_succ, EReal.coe_add, ih]

/-- The zero word is the number zero. -/
theorem bits_zero : (FloatOps.ofBits .f32 0x00000000#32 : Ideal .f32) = (0 : EReal) := by
  show Ideal.ofBits .f32 0x00000000#32 = 0
  simp [Ideal.ofBits, Ideal.ieee]

/-- The window's `n`-th place is its number. -/
theorem place_val (n : Fin S33.numel) (a : Fin 1) : (S33.rowMajor.symm n a).val = n.val := by
  rw [Routing.symm1 n]
  match a with
  | ⟨0, _⟩ => rfl

/-- The running sums of reals. -/
theorem cumV_real (v : FVec Ideal S33 .f32) (r : ℕ → ℝ) (hv : ∀ i : Fin 33, v (ix1 i) = ((r i.val : ℝ) : EReal)) (j : Fin 33) :
    cumV v (ix1 j) = ((∑ i ∈ Finset.range (j.val + 1), r i : ℝ) : EReal) := by
  refine (foldl_add (M := EReal) _ _ _).trans ?_
  rw [show broadcastInDim S_ ![] bcast_S_S_ (constant S_ .f32 0x00000000#32 : FVec Ideal S_ .f32) (Shape.Idx.first h_S_)
    = (0 : EReal) from bits_zero, coe_sum_range, ← window_sum (fun i => (r i : EReal)) j.val j.isLt, ← Fin.sum_univ_def]
  refine (zero_add _).trans (Fintype.sum_equiv (finCongr (Routing.numel1 33)) _ _ fun n => ?_)
  have hn : n.val < 33 := (finCongr (Routing.numel1 33) n).isLt
  have hj := j.isLt
  have hp : ∀ a : Fin 1, ((ix1 j : S33.Idx) a).val * (![1] : Fin 1 → ℕ) a + (S33.rowMajor.symm n a).val = j.val + n.val := fun a => by
    rw [place_val]
    match a with
    | ⟨0, _⟩ => exact congrArg (· + n.val) (Nat.mul_one j.val)
  have hl : ∀ a : Fin 1, (![32] : Fin 1 → ℕ) a = 32 := by decide
  have hs : ∀ a : Fin 1, S33.size a = 33 := by decide
  have hlt : j.val + n.val - 32 < 33 := by omega
  rw [finCongr_apply, Fin.val_cast]
  by_cases hle : 32 ≤ j.val + n.val
  · have hin := fun a => And.intro ((hl a).le.trans (hle.trans (hp a).symm.le))
      ((lt_of_eq_of_lt (congrArg₂ (· - ·) (hp a) (hl a)) hlt).trans_eq (hs a).symm)
    refine (dif_pos hin).trans ?_
    rw [if_pos hle]
    refine (congrArg v (funext fun a => Fin.ext ?_)).trans (hv ⟨j.val + n.val - 32, hlt⟩)
    refine (congrArg₂ (· - ·) (hp a) (hl a)).trans ?_
    match a with
    | ⟨0, _⟩ => rfl
  · rw [if_neg hle]
    exact dif_neg fun h => hle ((hl 0).symm.le.trans ((h 0).1.trans (hp 0).le))

/-! ## Joins and slices -/

/-- The first of the joined. -/
theorem joinV_zero (a : FVec Ideal S1 .f32) (b : FVec Ideal S32 .f32) : joinV a b (ix1 0) = a (ix1 0) := by
  unfold joinV
  rw [concatenate_pair_apply]
  rw [dif_pos (by decide)]
  refine congrArg a (funext fun d => ?_)
  match d with
  | ⟨0, _⟩ => rfl

/-- The others of the joined. -/
theorem joinV_succ (a : FVec Ideal S1 .f32) (b : FVec Ideal S32 .f32) (k : Fin 32) :
    joinV a b (ix1 k.succ) = b (ix1 k) := by
  unfold joinV
  rw [concatenate_pair_apply]
  rw [dif_neg (by show ¬ (k.val + 1 < 1); omega)]
  refine congrArg b (funext fun d => ?_)
  match d with
  | ⟨0, _⟩ => rfl

theorem initV_at (v : FVec Ideal S33 .f32) (k : Fin 32) : initV v (ix1 k) = v (ix1 k.castSucc) := by
  refine congrArg v (funext fun a => ?_)
  match a with
  | ⟨0, _⟩ => exact Fin.ext (Nat.zero_add _)

theorem tailV_at (v : FVec Ideal S33 .f32) (k : Fin 32) : tailV v (ix1 k) = v (ix1 k.succ) := by
  refine congrArg v (funext fun a => ?_)
  match a with
  | ⟨0, _⟩ => exact Fin.ext (Nat.add_comm _ _)

/-! ## The softplus -/

/-- The softplus of a finite number is a finite number. -/
theorem softplusV_real (th : FVec Ideal S32 .f32) (i : S32.Idx) (h : ∃ r : ℝ, th i = (r : EReal)) :
    ∃ r : ℝ, softplusV th i = (r : EReal) := by
  obtain ⟨r, h⟩ := h
  have hz : (zerosV : FVec Ideal S32 .f32) i = ((0 : ℝ) : EReal) := bits_zero
  have hm : ∀ a b : ℝ, max (a : EReal) (b : EReal) = ((max a b : ℝ) : EReal) := fun a b =>
    (EReal.coe_strictMono.monotone.map_max).symm
  have hpos : 0 < 1 + Real.exp (-(max r (-r))) := by positivity
  refine ⟨max r 0 + Real.log (1 + Real.exp (-(max r (-r)))), ?_⟩
  show (if Ideal.cmp .une (th i - (zerosV : FVec Ideal S32 .f32) i : EReal) (th i - (zerosV : FVec Ideal S32 .f32) i : EReal) = 1#1 then _
    else (max (th i : EReal) ((zerosV : FVec Ideal S32 .f32) i)
      + Ideal.log1p (Ideal.exp (-(max (th i - (zerosV : FVec Ideal S32 .f32) i : EReal) (-(th i - (zerosV : FVec Ideal S32 .f32) i : EReal))))) : EReal)) = _
  rw [if_neg (by simp [Ideal.cmp]), h, hz, hm, ← EReal.coe_sub, sub_zero, ← EReal.coe_neg, hm, ← EReal.coe_neg, Ideal.exp_coe]
  unfold Ideal.log1p
  rw [← EReal.coe_one, ← EReal.coe_add, Ideal.log_coe, if_neg (not_le.2 hpos), ← EReal.coe_add]

/-- The least increment, a finite number. -/
theorem bits_eps : ∃ r : ℝ, (FloatOps.ofBits .f32 0x38D1B717#32 : Ideal .f32) = (r : EReal) := by
  show ∃ r : ℝ, Ideal.ofBits .f32 0x38D1B717#32 = (r : EReal)
  simp only [Ideal.ofBits, Ideal.ieee]
  rw [if_neg (by decide), if_neg (by decide)]
  exact ⟨_, rfl⟩

end Cert.Proof.Plf

end
-- ==== Proof.Tables.lean ====
/-
  The slopes and the values at the knots, as real numbers: where the knots are the multiples of 1/32, each value is the
  one before it and a thirty-second of the slope between.
-/
module

public import proofs.«01_k».proof.Proof.Sums

@[expose] public section

noncomputable section

namespace Cert.Proof.Plf

open Cert.KernelIdeal Cert.KernelIdeal.Gen

open Idealize.ShloMosaic hiding ix0 ix1 ix2
open Idealize.ShloMosaic.ValueIdx

/-- The running sums of a joined vector of finite numbers: real sums, that begin at the first number and grow by the
    others in order. -/
theorem cum_join (a : FVec Ideal S1 .f32) (b : FVec Ideal S32 .f32) (s : ℝ) (d : Fin 32 → ℝ)
    (ha : a (ix1 0) = (s : EReal)) (hb : ∀ k : Fin 32, b (ix1 k) = (d k : EReal)) :
    ∃ C : ℕ → ℝ, (∀ j : Fin 33, cumV (joinV a b) (ix1 j) = ((C j.val : ℝ) : EReal))
      ∧ ∀ k : Fin 32, C (k.val + 1) = C k.val + d k := by
  let r : ℕ → ℝ := fun i => if i = 0 then s else if h : i - 1 < 32 then d ⟨i - 1, h⟩ else 0
  have hr : ∀ i : Fin 33, joinV a b (ix1 i) = ((r i.val : ℝ) : EReal) := fun i => by
    refine Fin.cases ?_ (fun k => ?_) i
    · rw [joinV_zero, ha]; rfl
    · rw [joinV_succ, hb]
      congr 1
      show d k = if k.val + 1 = 0 then s else if h : k.val + 1 - 1 < 32 then d ⟨k.val + 1 - 1, h⟩ else 0
      rw [if_neg (Nat.succ_ne_zero _), dif_pos (by have := k.isLt; omega)]
      rfl
  refine ⟨fun j => ∑ i ∈ Finset.range (j + 1), r i, fun j => cumV_real _ r hr j, fun k => ?_⟩
  show ∑ i ∈ Finset.range (k.val + 1 + 1), r i = ∑ i ∈ Finset.range (k.val + 1), r i + d k
  rw [Finset.sum_range_succ _ (k.val + 1)]
  congr 1
  show (if k.val + 1 = 0 then s else if h : k.val + 1 - 1 < 32 then d ⟨k.val + 1 - 1, h⟩ else 0) = d k
  rw [if_neg (Nat.succ_ne_zero _), dif_pos (by have := k.isLt; omega)]
  rfl

/-- The slopes and the values at the knots are real, and the values are the sums of the slopes' rises. -/
theorem tables_real (x : FVec Ideal S33 .f32) (th : FVec Ideal S32 .f32) (s0 : FVec Ideal S_ .f32)
    (hx : ∀ i : Fin 33, x (ix1 i) = (((i.val : ℝ) / 32 : ℝ) : EReal)) (hth : ∀ i : S32.Idx, ∃ r : ℝ, th i = (r : EReal))
    (hs : ∀ i : S_.Idx, ∃ r : ℝ, s0 i = (r : EReal)) :
    ∃ S K : ℕ → ℝ, (∀ j : Fin 33, slopesV th s0 (ix1 j) = ((S j.val : ℝ) : EReal))
      ∧ (∀ j : Fin 33, knotsV x th s0 (ix1 j) = ((K j.val : ℝ) : EReal))
      ∧ ∀ k : Fin 32, K (k.val + 1) = K k.val + S k.val * (1 / 32) := by
  obtain ⟨e, he⟩ := bits_eps
  choose p hp using fun k : Fin 32 => softplusV_real th (ix1 k) (hth _)
  obtain ⟨s, hs⟩ := hs ix0
  obtain ⟨S, hS, -⟩ := cum_join (broadcastInDim S1 ![] bcast_S_S1 s0)
    (addf (softplusV th) (broadcastInDim S32 ![] bcast_S_S32 (constant S_ .f32 0x38D1B717#32))) s (fun k => p k + e)
    ((broadcastInDim_scalar_apply _ _ _).trans hs) (fun k => by
      show (softplusV th (ix1 k) : EReal) + (FloatOps.ofBits .f32 0x38D1B717#32 : Ideal .f32) = _
      rw [hp, he, ← EReal.coe_add])
  obtain ⟨K, hK, hKs⟩ := cum_join (broadcastInDim S1 ![] bcast_S_S1 (constant S_ .f32 0x00000000#32))
    (mulf (initV (slopesV th s0)) (subf (tailV x) (initV x))) 0 (fun k => S k.val * (1 / 32)) bits_zero (fun k => by
      show (initV (slopesV th s0) (ix1 k) : EReal) * ((tailV x (ix1 k) : EReal) - initV x (ix1 k)) = _
      have h1 : slopesV th s0 (ix1 k.castSucc) = ((S k.val : ℝ) : EReal) := hS k.castSucc
      rw [initV_at, initV_at, tailV_at, h1, hx, hx, ← EReal.coe_sub, ← EReal.coe_mul]
      congr 2
      rw [Fin.val_succ, Fin.val_castSucc, Nat.cast_add, Nat.cast_one]
      ring)
  exact ⟨S, K, hS, hK, hKs⟩

end Cert.Proof.Plf

end
-- ==== Proof.Pre.lean ====
/-
  What the precondition says: the knots are the multiples of 1/32, every input lies in [0, 1), and the parameters and
  the first slope are finite.
-/
module

public import proofs.«01_k».proof.Proof.Sums
public import proofs.«01_k».proof.Proof.Gen.Pre_uniform_grid
public import Idealize.ShloMosaic.Lib.ReduceAll
public import Idealize.ShloMosaic.Lib.StableHlo.Predicate

@[expose] public section

noncomputable section

namespace Cert.Proof.Plf

open Cert.Pre_uniform_grid

open Idealize.ShloMosaic hiding ix0 ix1 ix2
open Idealize.ShloMosaic.ValueIdx

/-- The word of the number one. -/
theorem bits_one : (FloatOps.ofBits .f32 0x3F800000#32 : Ideal .f32) = ((1 : ℝ) : EReal) :=
  Ideal.ofBits_one_f32.trans EReal.coe_one.symm

/-- The word of the number thirty-two. -/
theorem bits_32 : (FloatOps.ofBits .f32 0x42000000#32 : Ideal .f32) = ((32 : ℝ) : EReal) := by
  show Ideal.ofBits .f32 0x42000000#32 = _
  simp [Ideal.ofBits, Ideal.ieee, -EReal.coe_mul]; norm_num

/-- The word of the positive infinity. -/
theorem bits_top : (FloatOps.ofBits .f32 0x7F800000#32 : Ideal .f32) = (⊤ : EReal) := by
  show Ideal.ofBits .f32 0x7F800000#32 = _
  simp [Ideal.ofBits, Ideal.ieee]

/-- A number whose absolute value is below the infinity is finite. -/
theorem finite_of_abs (a : EReal) (h : Ideal.cmp .olt (max a (-a)) ⊤ = 1#1) : ∃ r : ℝ, a = (r : EReal) := by
  have h : max a (-a) < ⊤ := of_decide_eq_true ((StableHlo.Predicate.ofBool_eq_one_iff _).1 h)
  induction a using EReal.rec with
  | bot => simp at h
  | coe r => exact ⟨r, rfl⟩
  | top => simp at h

/-- A number between zero and one is finite. -/
theorem finite_of_unit (a : EReal) (h0 : Ideal.cmp .oge a 0 = 1#1) (h1 : Ideal.cmp .olt a ((1 : ℝ) : EReal) = 1#1) :
    ∃ r : ℝ, a = (r : EReal) ∧ 0 ≤ r ∧ r < 1 := by
  have h0 : 0 ≤ a := of_decide_eq_true ((StableHlo.Predicate.ofBool_eq_one_iff _).1 h0)
  have h1 : a < ((1 : ℝ) : EReal) := of_decide_eq_true ((StableHlo.Predicate.ofBool_eq_one_iff _).1 h1)
  induction a using EReal.rec with
  | bot => simp at h0
  | coe r => exact ⟨r, rfl, EReal.coe_nonneg.1 h0, EReal.coe_lt_coe_iff.1 h1⟩
  | top => simp at h1

/-- A number whose product with thirty-two is real. -/
theorem knot_of_mul (a : EReal) (r : ℝ) (h : Ideal.cmp .oeq (a * ((32 : ℝ) : EReal)) (r : EReal) = 1#1) :
    a = ((r / 32 : ℝ) : EReal) := by
  have h : a * ((32 : ℝ) : EReal) = (r : EReal) := of_decide_eq_true ((StableHlo.Predicate.ofBool_eq_one_iff _).1 h)
  induction a using EReal.rec with
  | bot => rw [EReal.bot_mul_coe_of_pos (by norm_num)] at h; exact absurd h (EReal.bot_ne_coe r)
  | coe q =>
    rw [← EReal.coe_mul, EReal.coe_eq_coe_iff] at h
    rw [← h]
    congr 1
    field_simp
  | top => rw [EReal.top_mul_coe_of_pos (by norm_num)] at h; exact absurd h (EReal.top_ne_coe r)

/-- The precondition, read. -/
theorem pre_facts [Cert.Pre_uniform_grid.Facts] (t : FVec Ideal S16777216 .f32) (x : FVec Ideal S33 .f32) (th : FVec Ideal S32 .f32) (s0 : FVec Ideal S_ .f32)
    (h : Cert.Pre_uniform_grid.fn (F := Ideal) t x th s0 = fun _ => 1#1) :
    (∀ i : Fin 33, x (ix1 i) = (((i.val : ℝ) / 32 : ℝ) : EReal))
      ∧ (∀ j, ∃ r : ℝ, t j = (r : EReal) ∧ 0 ≤ r ∧ r < 1)
      ∧ (∀ i, ∃ r : ℝ, th i = (r : EReal)) ∧ ∀ i, ∃ r : ℝ, s0 i = (r : EReal) := by
  have : Subsingleton S_.Idx := ⟨fun a b => funext fun i => i.elim0⟩
  have e := congrFun h ix0
  unfold Cert.Pre_uniform_grid.fn Cert.Pre_uniform_grid.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun i => ?_, fun j => ?_, fun i => ?_, fun i => ?_⟩
  · have a := Host.reduce_andi_all _ _ _ _ _ e1 (ix1 i)
    refine knot_of_mul _ _ ?_
    have hi : ((BitVec.ofNat 32 i.val).toInt : ℝ) = (i.val : ℝ) := by
      rw [StableHlo.Predicate.toInt_ofNat_small _ (by have := i.isLt; omega)]
      simp
    rw [← hi, ← bits_32]
    exact a
  · have a := Host.reduce_andi_all _ _ _ _ _ e2 j
    have b := Host.reduce_andi_all _ _ _ _ _ e3 j
    refine finite_of_unit _ ?_ ?_
    · rw [← bits_zero]; exact a
    · rw [← bits_one]; exact b
  · have a := Host.reduce_andi_all _ _ _ _ _ e4 i
    refine finite_of_abs _ ?_
    rw [← bits_top]; exact a
  · refine finite_of_abs _ ?_
    rw [← bits_top, Subsingleton.elim i ix0]; exact e5

end Cert.Proof.Plf

end
-- ==== Proof.Index.lean ====
/-
  The segment of an input, both ways: the kernel's, the whole part of thirty-two times the input, and the reference's,
  one less than the number of knots below the input, and not below zero. The two pick different segments only at a knot.
-/
module

public import proofs.«01_k».proof.Proof.Pre

@[expose] public section

noncomputable section

namespace Cert.Proof.Plf

open Cert.KernelIdeal Cert.KernelIdeal.Gen

open Idealize.ShloMosaic hiding ix0 ix1 ix2
open Idealize.ShloMosaic.ValueIdx

/-! ## The kernel's segment -/

/-- The low five bits of a number from thirty-two on, below sixty-four. -/
theorem low_bits (n : ℕ) (hn : n < 32) : (IntOp.andi (BitVec.ofInt 32 ((n : ℤ) + 32)) 31#32).toNat = n := by
  have h : ∀ k : Fin 32, (IntOp.andi (BitVec.ofInt 32 ((k.val : ℤ) + 32)) 31#32).toNat = k.val := by decide
  exact h ⟨n, hn⟩

/-- The kernel's segment is the whole part of thirty-two times the input. -/
theorem seg_toNat (t : Ideal .f32) (r : ℝ) (ht : t = (r : EReal)) (h0 : 0 ≤ r) (n : ℕ) (hn : n < 32)
    (hl : (n : ℝ) ≤ r * 32) (hu : r * 32 < n + 1) : (seg t).toNat = n := by
  have hfl : ⌊(r + 1) * 32⌋ = (n : ℤ) + 32 := by
    rw [Int.floor_eq_iff]
    push_cast
    constructor <;> linarith
  have hi : Ideal.fptosi 32 ((((r + 1) * 32 : ℝ) : EReal)) = BitVec.ofInt 32 ((n : ℤ) + 32) := by
    unfold Ideal.fptosi
    congr 1
    show max _ (min _ (if 0 ≤ (r + 1) * 32 then ⌊(r + 1) * 32⌋ else ⌈(r + 1) * 32⌉)) = _
    rw [if_pos (by positivity), hfl]
    norm_num
    omega
  refine Eq.trans ?_ (low_bits n hn)
  show (IntOp.andi (Ideal.fptosi 32 (((t : EReal) + (FloatOps.ofBits .f32 0x3F800000#32 : Ideal .f32))
    * (FloatOps.ofBits .f32 0x42000000#32 : Ideal .f32))) 31#32).toNat = _
  rw [bits_one, bits_32, ht, ← EReal.coe_add, ← EReal.coe_mul, hi]

/-! ## The reference's segment -/

/-- The number of numbers below thirty-three that are below one of them. -/
theorem count_below (c : ℕ) (hc : c ≤ 33) (Q : ℕ → Prop) [DecidablePred Q] (hQ : ∀ q, Q q ↔ q < c) : Nat.count Q 33 = c := by
  rw [Nat.count_eq_card_filter_range]
  have : (Finset.range 33).filter Q = Finset.range c := by
    ext q
    rw [Finset.mem_filter, Finset.mem_range, Finset.mem_range, hQ]
    omega
  rw [this, Finset.card_range]

/-- A word brought between zero and thirty-one after one is taken from it. -/
def clip (c : BitVec 32) : BitVec 32 := IntOp.minsi 31#32 (IntOp.maxsi 0#32 (IntOp.subi c 1#32))

/-- A position, a negative one counted from the end. -/
def wrap (i : BitVec 32) : BitVec 32 := if IntOp.cmpi .slt i 0#32 = 1#1 then IntOp.addi i 33#32 else i

/-- The place of the table that a count leads to. -/
theorem place (c : ℕ) (hc : c < 33) : min (wrap (clip (BitVec.ofNat 32 c))).toInt.toNat (33 - 1) = c - 1 := by
  have h : ∀ k : Fin 33, min (wrap (clip (BitVec.ofNat 32 k.val))).toInt.toNat (33 - 1) = k.val - 1 := by decide
  exact h ⟨c, hc⟩

/-! ## The equation -/

/-- The two results are equal: in one segment by distribution, and at a knot because the value there is the one before it
    and the slope's rise. -/
theorem results_eq (S K : ℕ → ℝ) (hK : ∀ k : Fin 32, K (k.val + 1) = K k.val + S k.val * (1 / 32)) (r : ℝ) (h0 : 0 ≤ r)
    (n c : ℕ) (hn : n < 32) (hl : (n : ℝ) ≤ r * 32) (hu : r * 32 < n + 1) (hc : ∀ q : ℕ, (q : ℝ) < r * 32 ↔ q < c) :
    K (c - 1) + S (c - 1) * (r - (((c - 1 : ℕ) : ℝ) / 32)) = (K n - S n * ((n : ℝ) / 32)) + S n * r := by
  have hcn : c = n ∨ c = n + 1 := by
    have h1 : ¬ (n + 1 < c) := fun h => by
      have := (hc (n + 1)).2 h
      push_cast at this
      linarith
    rcases Nat.eq_zero_or_pos n with hz | hp
    · omega
    · have h2 : n - 1 < c := (hc (n - 1)).1 (by rw [Nat.cast_sub hp]; push_cast; linarith)
      omega
  rcases hcn with rfl | rfl
  · have hr : r * 32 = c := le_antisymm (not_lt.1 fun h => absurd ((hc c).1 h) (lt_irrefl _)) hl
    rcases Nat.eq_zero_or_pos c with rfl | hp
    · simp
    · obtain ⟨k, rfl⟩ : ∃ k, c = k + 1 := ⟨c - 1, by omega⟩
      have hk := hK ⟨k, by omega⟩
      dsimp only at hk
      rw [Nat.add_sub_cancel, hk]
      push_cast at hr ⊢
      have : r = ((k : ℝ) + 1) / 32 := by linarith
      rw [this]
      ring
  · rw [Nat.add_sub_cancel]
    ring

end Cert.Proof.Plf

end
-- ==== Proof.Take.lean ====
/-
  The reference's value, by names for its parts, and its tables read at an input's segment: the segment is one less than
  the number of knots below the input, and not below zero.
-/
module

public import proofs.«01_k».proof.Proof.Tables
public import proofs.«01_k».proof.Proof.Index
public import proofs.«01_k».proof.Proof.Gen.ReferenceIdeal
public import proofs.«01_k».proof.Proof.Gen.ReferenceIdeal.Run

@[expose] public section

noncomputable section

namespace Cert.Proof.Plf

open Cert.ReferenceIdeal Cert.ReferenceIdeal.Gen

open Idealize.ShloMosaic hiding ix0 ix1 ix2 eq_ix1
open Idealize.ShloMosaic.ValueIdx
open Idealize.SL.Sem

/-! ## The reference's value -/

/-- Which knots lie below each input. -/
def belowV (t : FVec Ideal S16777216 .f32) (x : FVec Ideal S33 .f32) : IVec S16777216x33 1 :=
  cmpf .olt (broadcastInDim S16777216x33 ![0, 1] bcast_S1x33_S16777216x33_0_1 (broadcastInDim S1x33 ![1] bcast_S33_S1x33_1 x))
    (broadcastInDim S16777216x33 ![0, 1] bcast_S16777216x1_S16777216x33_0_1
      (broadcastInDim S16777216x1 ![0] bcast_S16777216_S16777216x1_0 t))

/-- The number of knots below each input. -/
def countV (t : FVec Ideal S16777216 .f32) (x : FVec Ideal S33 .f32) : IVec S16777216 32 :=
  Host.reduce IntOp.addi (extui 32 (belowV t x) natLt_1_32) (constantI S_ 32 0#32) reducesTo_S16777216x33_S16777216_d1 h_S_

/-- The segment of each input, as a word. -/
def segV (c : IVec S16777216 32) : IVec S16777216 32 :=
  minsi (broadcastInDim S16777216 ![] bcast_S_S16777216 (id (constantI S_ 32 31#32)))
    (maxsi (broadcastInDim S16777216 ![] bcast_S_S16777216 (id (constantI S_ 32 0#32)))
      (subi c (broadcastInDim S16777216 ![] bcast_S_S16777216 (constantI S_ 32 1#32))))

/-- The positions at which the tables are read. -/
def placeV (i : IVec S16777216 32) : IVec S16777216x1 32 :=
  broadcastInDim S16777216x1 ![0] bcast_S16777216_S16777216x1_0
    (select (cmpi .slt i (broadcastInDim S16777216 ![] bcast_S_S16777216 (constantI S_ 32 0#32)))
      (addi i (broadcastInDim S16777216 ![] bcast_S_S16777216 (constantI S_ 32 33#32))) i)

/-- A table of thirty-three read at each input's segment. -/
def takeV (t : FVec Ideal S16777216 .f32) (x a : FVec Ideal S33 .f32) : FVec Ideal S16777216 .f32 :=
  Host.gather gather_S33_S16777216x1_S16777216_n_0_n_n_0_1_1 a (placeV (segV (countV t x)))

/-- The reference's result. -/
def refV (t : FVec Ideal S16777216 .f32) (x : FVec Ideal S33 .f32) (th : FVec Ideal S32 .f32) (s0 : FVec Ideal S_ .f32) :
    FVec Ideal S16777216 .f32 :=
  addf (takeV t x (knotsV x th s0)) (mulf (takeV t x (slopesV th s0)) (subf t (takeV t x x)))

/-- Whether a knot lies below an input. -/
theorem belowV_at (t : FVec Ideal S16777216 .f32) (x : FVec Ideal S33 .f32) (i : Fin 16777216) (q : Fin 33) :
    belowV t x (ix2 i q) = Ideal.cmp .olt (x (ix1 q)) (t (ix1 i)) := by
  have h1 := StableHlo.Predicate.bcast_cols bcast_S33_S1x33_1 bcast_S1x33_S16777216x33_0_1 x i q
  have h2 := StableHlo.Predicate.bcast_rows bcast_S16777216_S16777216x1_0 bcast_S16777216x1_S16777216x33_0_1 t i q
  rw [Routing.ij_eq_ix2, Routing.ofFin_eq_ix1] at h1 h2
  exact congrArg₂ (Ideal.cmp .olt) h1 h2

/-- The number of knots below an input. -/
theorem countV_at (t : FVec Ideal S16777216 .f32) (x : FVec Ideal S33 .f32)
    (hx : ∀ i : Fin 33, x (ix1 i) = (((i.val : ℝ) / 32 : ℝ) : EReal)) (i : Fin 16777216) (r : ℝ) (ht : t (ix1 i) = (r : EReal))
    (c : ℕ) (hc : c ≤ 33) (hcr : ∀ q : ℕ, (q : ℝ) < r * 32 ↔ q < c) : countV t x (ix1 i) = BitVec.ofNat 32 c := by
  have h := Routing.reduce_count (n := 16777216) (m := 33) (by norm_num) (belowV t x) natLt_1_32
    reducesTo_S16777216x33_S16777216_d1 h_S_ i (fun q => q < c) (fun q => by
      rw [belowV_at, hx, ht]
      refine (StableHlo.Predicate.ofBool_eq_one_iff _).trans (decide_eq_true_iff.trans ?_)
      rw [EReal.coe_lt_coe_iff, div_lt_iff₀ (by norm_num)]
      exact hcr q.val)
  rw [count_below c hc _ fun _ => Iff.rfl] at h
  exact h

/-- A table read at an input's segment. -/
theorem takeV_at (t : FVec Ideal S16777216 .f32) (x a : FVec Ideal S33 .f32) (i : Fin 16777216) (c : ℕ) (hc : c < 33)
    (h : countV t x (ix1 i) = BitVec.ofNat 32 c) : takeV t x a (ix1 i) = a (ix1 ⟨c - 1, by omega⟩) := by
  have hg := StableHlo.Predicate.gather_take gather_S33_S16777216x1_S16777216_n_0_n_n_0_1_1 rfl rfl rfl rfl a
    (placeV (segV (countV t x))) i (by norm_num)
  have hp : placeV (segV (countV t x)) (StableHlo.Predicate.ixP i) = wrap (clip (BitVec.ofNat 32 c)) := by
    refine (StableHlo.Predicate.bcast_col1 bcast_S16777216_S16777216x1_0 _ i).trans ?_
    rw [Routing.ofFin_eq_ix1]
    have hs : segV (countV t x) (ix1 i) = clip (BitVec.ofNat 32 c) := congrArg clip h
    exact congrArg wrap hs
  rw [Routing.ofFin_eq_ix1] at hg
  refine hg.trans (congrArg a ?_)
  rw [Routing.ofFin_eq_ix1]
  refine congrArg ix1 (Fin.ext ?_)
  show min (placeV (segV (countV t x)) (StableHlo.Predicate.ixP i)).toInt.toNat (33 - 1) = c - 1
  rw [hp, place c hc]

end Cert.Proof.Plf

end
-- ==== Proof.RefValue.lean ====
/-
  The values at one input, as real numbers: the reference's, from the tables at the segment that the count of knots
  picks, and the kernel's, from the tables at the segment that the conversion picks.
-/
module

public import proofs.«01_k».proof.Proof.Tables
public import proofs.«01_k».proof.Proof.Take

@[expose] public section

noncomputable section

namespace Cert.Proof.Plf

open Cert.ReferenceIdeal Cert.ReferenceIdeal.Gen

open Idealize.ShloMosaic hiding ix0 ix1 ix2 eq_ix1
open Idealize.ShloMosaic.ValueIdx
open Idealize.SL.Sem

/-! ## The two values -/

/-- A sum with a product of a difference, at an index. -/
theorem line_at {s : Shape} (a b t d : FVec Ideal s .f32) (j : s.Idx) :
    addf a (mulf b (subf t d)) j = ((a j : EReal) + (b j : EReal) * ((t j : EReal) - (d j : EReal)) : EReal) := rfl

/-- The reference's result at an input, where the tables are real. -/
theorem refV_at (t : FVec Ideal S16777216 .f32) (x : FVec Ideal S33 .f32) (th : FVec Ideal S32 .f32) (s0 : FVec Ideal S_ .f32)
    (hx : ∀ i : Fin 33, x (ix1 i) = (((i.val : ℝ) / 32 : ℝ) : EReal)) (S K : ℕ → ℝ)
    (hS : ∀ j : Fin 33, slopesV th s0 (ix1 j) = ((S j.val : ℝ) : EReal))
    (hK : ∀ j : Fin 33, knotsV x th s0 (ix1 j) = ((K j.val : ℝ) : EReal)) (i : Fin 16777216) (r : ℝ)
    (hr : t (ix1 i) = (r : EReal)) (c : ℕ) (hc : c < 33) (hq : ∀ q : ℕ, (q : ℝ) < r * 32 ↔ q < c) :
    refV t x th s0 (ix1 i) = ((K (c - 1) + S (c - 1) * (r - (((c - 1 : ℕ) : ℝ) / 32)) : ℝ) : EReal) := by
  have hcount := countV_at t x hx i r hr c hc.le hq
  have h1 := (takeV_at t x (knotsV x th s0) i c hc hcount).trans (hK _)
  have h2 := (takeV_at t x (slopesV th s0) i c hc hcount).trans (hS _)
  have h3 := (takeV_at t x x i c hc hcount).trans (hx _)
  unfold refV
  rw [line_at, h1, h2, h3, hr, ← EReal.coe_sub, ← EReal.coe_mul, ← EReal.coe_add]

/-- The kernel's result at one input, where the tables are real. -/
theorem outAt_real (x : FVec Ideal S33 .f32) (th : FVec Ideal S32 .f32) (s0 : FVec Ideal S_ .f32)
    (hx : ∀ i : Fin 33, x (ix1 i) = (((i.val : ℝ) / 32 : ℝ) : EReal)) (S K : ℕ → ℝ)
    (hS : ∀ j : Fin 33, slopesV th s0 (ix1 j) = ((S j.val : ℝ) : EReal))
    (hK : ∀ j : Fin 33, knotsV x th s0 (ix1 j) = ((K j.val : ℝ) : EReal)) (t : Ideal .f32) (r : ℝ)
    (hr : t = (r : EReal)) (h0 : 0 ≤ r) (n : ℕ) (hn : n < 32) (hl : (n : ℝ) ≤ r * 32) (hu : r * 32 < n + 1) :
    outAt (tabA x th s0) (tabB th s0) t = (((K n - S n * ((n : ℝ) / 32)) + S n * r : ℝ) : EReal) := by
  have hseg : segIx t = ix1 ⟨n, hn⟩ := by
    funext a
    match a with
    | ⟨0, _⟩ => exact Fin.ext (seg_toNat _ r hr h0 n hn hl hu)
  have hB : tabB th s0 (ix1 ⟨n, hn⟩) = ((S n : ℝ) : EReal) := (initV_at _ _).trans (hS _)
  have hA : tabA x th s0 (ix1 ⟨n, hn⟩) = ((K n - S n * ((n : ℝ) / 32) : ℝ) : EReal) := by
    have h1 : initV (knotsV x th s0) (ix1 ⟨n, hn⟩) = ((K n : ℝ) : EReal) := (initV_at _ _).trans (hK _)
    have h2 : initV x (ix1 ⟨n, hn⟩) = (((n : ℝ) / 32 : ℝ) : EReal) := (initV_at _ _).trans (hx _)
    show (initV (knotsV x th s0) (ix1 ⟨n, hn⟩) : EReal) - (tabB th s0 (ix1 ⟨n, hn⟩) : EReal)
      * (initV x (ix1 ⟨n, hn⟩) : EReal) = _
    rw [h1, hB, h2, ← EReal.coe_mul, ← EReal.coe_sub]
  show (tabA x th s0 (segIx t) : EReal) + (tabB th s0 (segIx t) : EReal) * (t : EReal) = _
  rw [hseg, hA, hB, hr, ← EReal.coe_mul, ← EReal.coe_add]

end Cert.Proof.Plf

end
-- ==== Proof.Value.lean ====
/-
  The value claim: on the extended reals the kernel's result is the reference's, on a uniform grid.
-/
module

public import proofs.«01_k».proof.Proof.Launch
public import proofs.«01_k».proof.Proof.RefValue
public import proofs.«01_k».proof.Proof.Gen.ReferenceIdeal
public import proofs.«01_k».proof.Proof.Gen.ReferenceIdeal.Run

@[expose] public section

noncomputable section

namespace Cert.Proof.Plf

open Cert.ReferenceIdeal Cert.ReferenceIdeal.Gen

open Idealize.ShloMosaic hiding ix0 ix1 ix2 eq_ix1
open Idealize.ShloMosaic.ValueIdx
open Idealize.SL.Sem

/-! ## The equation -/

/-- On a uniform grid the two results are one. -/
theorem refV_eq (t : FVec Ideal S16777216 .f32) (x : FVec Ideal S33 .f32) (th : FVec Ideal S32 .f32) (s0 : FVec Ideal S_ .f32)
    (hx : ∀ i : Fin 33, x (ix1 i) = (((i.val : ℝ) / 32 : ℝ) : EReal)) (ht : ∀ j, ∃ r : ℝ, t j = (r : EReal) ∧ 0 ≤ r ∧ r < 1)
    (hth : ∀ i, ∃ r : ℝ, th i = (r : EReal)) (hs : ∀ i, ∃ r : ℝ, s0 i = (r : EReal)) :
    refV t x th s0 = outV (tabA x th s0) (tabB th s0) t := by
  obtain ⟨S, K, hS, hK, hKs⟩ := tables_real x th s0 hx hth hs
  funext j
  rw [eq_ix1 j]
  obtain ⟨r, hr, h0, h1⟩ := ht (ix1 (j 0))
  have h32 : 0 ≤ r * 32 := by positivity
  have hn : ⌊r * 32⌋₊ < 32 := (Nat.floor_lt h32).2 (by push_cast; linarith)
  have hc : ⌈r * 32⌉₊ < 33 := Nat.lt_succ_of_le (Nat.ceil_le.2 (by push_cast; linarith))
  have hl : ((⌊r * 32⌋₊ : ℕ) : ℝ) ≤ r * 32 := Nat.floor_le h32
  have hu : r * 32 < ((⌊r * 32⌋₊ : ℕ) : ℝ) + 1 := Nat.lt_floor_add_one _
  have hq : ∀ q : ℕ, (q : ℝ) < r * 32 ↔ q < ⌈r * 32⌉₊ := fun q => Nat.lt_ceil.symm
  refine (refV_at t x th s0 hx S K hS hK (j 0) r hr _ hc hq).trans ?_
  rw [results_eq S K hKs r h0 _ _ hn hl hu hq]
  exact (outAt_real x th s0 hx S K hS hK _ r hr h0 _ hn hl hu).symm

/-! ## The claim -/

set_option maxRecDepth 65536 in
set_option maxHeartbeats 4000000 in
/-- The reference's result, by the names above. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v45 (F := Ideal) m c
      = refV (m ((c.tc : Thread Cert.ReferenceIdeal.nD Cert.ReferenceIdeal.τ).loc main_arg0))
        (m ((c.tc : Thread Cert.ReferenceIdeal.nD Cert.ReferenceIdeal.τ).loc main_arg1))
        (m ((c.tc : Thread Cert.ReferenceIdeal.nD Cert.ReferenceIdeal.τ).loc main_arg2))
        (m ((c.tc : Thread Cert.ReferenceIdeal.nD Cert.ReferenceIdeal.τ).loc main_arg3)) := rfl

/-- The kernel's result is the reference's. -/
theorem value : Cert.algebraic_KernelIdeal_ReferenceIdeal_pre_uniform_grid (hKernelIdeal := Cert.KernelIdeal.Gen.facts)
    (hReferenceIdeal := Cert.ReferenceIdeal.Gen.facts) (hPre_uniform_grid := Cert.Pre_uniform_grid.Gen.facts) := by
  intro m g m' g' hpre hargs
  refine ⟨fun c => mOut m c, ?_, ?_⟩
  · exact (θ_run Cert.KernelIdeal.defs _ _).mono
      (fun _ h c => ⟨(h.1 c).2.1, (h.1 c).1, (h.1 c).2.2.1, (h.1 c).2.2.2.1, (h.1 c).2.2.2.2⟩) (run_main (F := Ideal) m g)
  · refine (θ_run Cert.ReferenceIdeal.defs _ _).mono (fun _ h c => ⟨(h c).1.trans ?_, (h c).2⟩)
      (Cert.ReferenceIdeal.Value.run (F := Ideal) m' g')
    obtain ⟨e0, e1, e2, e3⟩ := hargs c
    have e := res_eq m' c
    rw [e0, e1, e2, e3] at e
    obtain ⟨hx, ht, hth, hs⟩ := pre_facts _ _ _ _ (hpre c)
    exact e.trans (refV_eq _ _ _ _ hx ht hth hs)

end Cert.Proof.Plf

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Pre_uniform_grid
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_uniform_grid.Gen.facts,
    frame_kernel, frame_ideal, frame_ideal_pre, frame_reference, frame_reference_pre, trivial, Plf.value⟩

end Cert.Proof

end
